-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x4096x128 : Shape := ⟨3, ![32, 4096, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S512x512x1 : Shape := ⟨3, ![512, 512, 1]⟩
abbrev S512x1024 : Shape := ⟨2, ![512, 1024]⟩
abbrev S2x32x16x64x512 : Shape := ⟨5, ![2, 32, 16, 64, 512]⟩
abbrev S2x4096x128 : Shape := ⟨3, ![2, 4096, 128]⟩
abbrev S2x2x16x64x512 : Shape := ⟨5, ![2, 2, 16, 64, 512]⟩
abbrev S1 : Shape := ⟨1, ![1]⟩
abbrev S1x512x128 : Shape := ⟨3, ![1, 512, 128]⟩
abbrev S512x128 : Shape := ⟨2, ![512, 128]⟩
abbrev S512x64 : Shape := ⟨2, ![512, 64]⟩
abbrev S512x2048 : Shape := ⟨2, ![512, 2048]⟩
abbrev S2048x1024 : Shape := ⟨2, ![2048, 1024]⟩
abbrev S64x1024 : Shape := ⟨2, ![64, 1024]⟩
abbrev S64x512 : Shape := ⟨2, ![64, 512]⟩
abbrev S1x1x1x64x512 : Shape := ⟨5, ![1, 1, 1, 64, 512]⟩
abbrev S32x16x512x64x2 : Shape := ⟨5, ![32, 16, 512, 64, 2]⟩
abbrev S4096 : Shape := ⟨1, ![4096]⟩
abbrev S1x4096 : Shape := ⟨2, ![1, 4096]⟩
abbrev S32x4096 : Shape := ⟨2, ![32, 4096]⟩

abbrev nBuf : Space → Nat
  | .hbm => 58
  | .vmem => 5
  | .smem => 2
  | _ => 0

abbrev bufTy : (tb : Table) → Fin (tcTables nBuf tb) → BufTy
  | .hbm, ⟨0, _⟩ => ⟨S32x4096x128, .f32⟩
  | .hbm, ⟨1, _⟩ => ⟨S512, .f32⟩
  | .hbm, ⟨2, _⟩ => ⟨S512, .f32⟩
  | .hbm, ⟨3, _⟩ => ⟨S512, .i32⟩
  | .hbm, ⟨4, _⟩ => ⟨S512x1, .i32⟩
  | .hbm, ⟨5, _⟩ => ⟨S1x512, .i32⟩
  | .hbm, ⟨6, _⟩ => ⟨S512x512, .i32⟩
  | .hbm, ⟨7, _⟩ => ⟨S512x512, .i32⟩
  | .hbm, ⟨8, _⟩ => ⟨S512x512, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S512x512, .i32⟩
  | .hbm, ⟨16, _⟩ => ⟨S512x512, .i32⟩
  | .hbm, ⟨17, _⟩ => ⟨S_, .i32⟩
  | .hbm, ⟨18, _⟩ => ⟨S512x512, .i32⟩
  | .hbm, ⟨19, _⟩ => ⟨S512x512, .i1⟩
  | .hbm, ⟨20, _⟩ => ⟨S_, .i32⟩
  | .hbm, ⟨21, _⟩ => ⟨S512x512, .i32⟩
  | .hbm, ⟨22, _⟩ => ⟨S512x512, .i1⟩
  | .hbm, ⟨23, _⟩ => ⟨S_, .i32⟩
  | .hbm, ⟨24, _⟩ => ⟨S_, .i1⟩
  | .hbm, ⟨25, _⟩ => ⟨S512x512, .i1⟩
  | .hbm, ⟨26, _⟩ => ⟨S512x512, .i1⟩
  | .hbm, ⟨27, _⟩ => ⟨S512x512, .i1⟩
  | .hbm, ⟨28, _⟩ => ⟨S512x512, .i32⟩
  | .hbm, ⟨29, _⟩ => ⟨S512x512, .i32⟩
  | .hbm, ⟨30, _⟩ => ⟨S512x512, .i32⟩
  | .hbm, ⟨31, _⟩ => ⟨S_, .i32⟩
  | .hbm, ⟨32, _⟩ => ⟨S512x512, .i32⟩
  | .hbm, ⟨33, _⟩ => ⟨S512x512, .i1⟩
  | .hbm, ⟨34, _⟩ => ⟨S_, .i32⟩
  | .hbm, ⟨35, _⟩ => ⟨S512x512, .i32⟩
  | .hbm, ⟨36, _⟩ => ⟨S512x512, .i32⟩
  | .hbm, ⟨37, _⟩ => ⟨S512x512, .i32⟩
  | .hbm, ⟨38, _⟩ => ⟨S512x512x1, .i32⟩
  | .hbm, ⟨39, _⟩ => ⟨S512x512, .f32⟩
  | .hbm, ⟨40, _⟩ => ⟨S_, .i32⟩
  | .hbm, ⟨41, _⟩ => ⟨S512x512, .i32⟩
  | .hbm, ⟨42, _⟩ => ⟨S512x512, .i1⟩
  | .hbm, ⟨43, _⟩ => ⟨S_, .i32⟩
  | .hbm, ⟨44, _⟩ => ⟨S512x512, .i32⟩
  | .hbm, ⟨45, _⟩ => ⟨S512x512, .i32⟩
  | .hbm, ⟨46, _⟩ => ⟨S512x512, .i32⟩
  | .hbm, ⟨47, _⟩ => ⟨S512x512x1, .i32⟩
  | .hbm, ⟨48, _⟩ => ⟨S512x512, .f32⟩
  | .hbm, ⟨49, _⟩ => ⟨S512x1024, .f32⟩
  | .hbm, ⟨50, _⟩ => ⟨S2x32x16x64x512, .f32⟩
  | .hbm, ⟨51, _⟩ => ⟨S32x16x512x64x2, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S1x4096, .f32⟩
  | .hbm, ⟨57, _⟩ => ⟨S32x4096, .f32⟩
  | .local _ .vmem, ⟨0, _⟩ => ⟨S2x4096x128, .f32⟩
  | .local _ .vmem, ⟨1, _⟩ => ⟨S2x4096x128, .f32⟩
  | .local _ .vmem, ⟨2, _⟩ => ⟨S512x1024, .f32⟩
  | .local _ .vmem, ⟨3, _⟩ => ⟨S2x2x16x64x512, .f32⟩
  | .local _ .vmem, ⟨4, _⟩ => ⟨S2x2x16x64x512, .f32⟩
  | .local _ .smem, ⟨0, _⟩ => ⟨S512, .i32⟩
  | .local _ .smem, ⟨1, _⟩ => ⟨S512, .i32⟩
  | _, _ => ⟨S32x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_2 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v6 : Ref sig .tc := ⟨.hbm, 30, rfl⟩
abbrev main_c_3 : Ref sig .tc := ⟨.hbm, 31, rfl⟩
abbrev main_v7 : Ref sig .tc := ⟨.hbm, 32, rfl⟩
abbrev main_v8 : Ref sig .tc := ⟨.hbm, 33, rfl⟩
abbrev main_c_4 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_5 : Ref sig .tc := ⟨.hbm, 40, rfl⟩
abbrev main_v14 : Ref sig .tc := ⟨.hbm, 41, rfl⟩
abbrev main_v15 : Ref sig .tc := ⟨.hbm, 42, rfl⟩
abbrev main_c_6 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_7 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c : Ref sig .tc := ⟨.smem, 0, rfl⟩
abbrev main_c_1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

abbrev pre0 : Pipeline.Prefetch sig := ⟨2, ![main_c.idx, main_c_1.idx], fun | 0 => main_c.names | 1 => main_c_1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c16_i32 : BitVec 32 := 16#32
  let v2 : BitVec 32 := Scalar.muli v1 c16_i32
  let c0_i32_0 : BitVec 32 := 0#32
  let v3 : BitVec 32 := Scalar.addi v2 c0_i32_0
  let v4 : Index := Scalar.indexCast v3
  ![v4.toNat]
def k0_off2 (v5 : BitVec 32) : Fin 3 → Nat :=
  let c0 : Index := 0#32
  let v8 : Index := Scalar.indexCast v5
  let c0_1 : Index := 0#32
  ![0, v8.toNat, 0]

def k0_chk1 (v5 : BitVec 32) : Prop :=
  (∀ a, (k0_off2 v5) a + S1x512x128.size a ≤ S2x4096x128.size a)
theorem k0_off2_inb : ∀ (v5 : BitVec 32) (k0_hw1 : k0_chk1 v5), ∀ a, (k0_off2 v5) a + S1x512x128.size a ≤ S2x4096x128.size a := fun v5 k0_hw1 => k0_hw1

def k0_off3 (i : grid0.Coords) : Fin 1 → Nat :=
  let arg0 : BitVec 32 := BitVec.ofNat 32 (i 0).val
  let c2_i32_2 : BitVec 32 := 2#32
  let v14 : BitVec 32 := Scalar.muli arg0 c2_i32_2
  let c0_i32_3 : BitVec 32 := 0#32
  let v15 : BitVec 32 := Scalar.addi v14 c0_i32_3
  let c16_i32_4 : BitVec 32 := 16#32
  let v16 : BitVec 32 := Scalar.muli v15 c16_i32_4
  let c1_i32 : BitVec 32 := 1#32
  let v17 : BitVec 32 := Scalar.addi v16 c1_i32
  let v18 : Index := Scalar.indexCast v17
  ![v18.toNat]
def k0_off4 (v19 : BitVec 32) : Fin 3 → Nat :=
  let c0_5 : Index := 0#32
  let v22 : Index := Scalar.indexCast v19
  let c0_6 : Index := 0#32
  ![0, v22.toNat, 0]

def k0_chk2 (v19 : BitVec 32) : Prop :=
  (∀ a, (k0_off4 v19) a + S1x512x128.size a ≤ S2x4096x128.size a)
theorem k0_off4_inb : ∀ (v19 : BitVec 32) (k0_hw2 : k0_chk2 v19), ∀ a, (k0_off4 v19) a + S1x512x128.size a ≤ S2x4096x128.size a := fun v19 k0_hw2 => k0_hw2

def k0_off5 (i : grid0.Coords) : Fin 1 → Nat :=
  let arg0 : BitVec 32 := BitVec.ofNat 32 (i 0).val
  let c2_i32_8 : BitVec 32 := 2#32
  let v28 : BitVec 32 := Scalar.muli arg0 c2_i32_8
  let c0_i32_9 : BitVec 32 := 0#32
  let v29 : BitVec 32 := Scalar.addi v28 c0_i32_9
  let c16_i32_10 : BitVec 32 := 16#32
  let v30 : BitVec 32 := Scalar.muli v29 c16_i32_10
  let c2_i32_11 : BitVec 32 := 2#32
  let v31 : BitVec 32 := Scalar.addi v30 c2_i32_11
  let v32 : Index := Scalar.indexCast v31
  ![v32.toNat]
def k0_off6 (v33 : BitVec 32) : Fin 3 → Nat :=
  let c0_12 : Index := 0#32
  let v36 : Index := Scalar.indexCast v33
  let c0_13 : Index := 0#32
  ![0, v36.toNat, 0]

def k0_chk3 (v33 : BitVec 32) : Prop :=
  (∀ a, (k0_off6 v33) a + S1x512x128.size a ≤ S2x4096x128.size a)
theorem k0_off6_inb : ∀ (v33 : BitVec 32) (k0_hw3 : k0_chk3 v33), ∀ a, (k0_off6 v33) a + S1x512x128.size a ≤ S2x4096x128.size a := fun v33 k0_hw3 => k0_hw3

def k0_off7 (i : grid0.Coords) : Fin 1 → Nat :=
  let arg0 : BitVec 32 := BitVec.ofNat 32 (i 0).val
  let c2_i32_15 : BitVec 32 := 2#32
  let v42 : BitVec 32 := Scalar.muli arg0 c2_i32_15
  let c0_i32_16 : BitVec 32 := 0#32
  let v43 : BitVec 32 := Scalar.addi v42 c0_i32_16
  let c16_i32_17 : BitVec 32 := 16#32
  let v44 : BitVec 32 := Scalar.muli v43 c16_i32_17
  let c3_i32 : BitVec 32 := 3#32
  let v45 : BitVec 32 := Scalar.addi v44 c3_i32
  let v46 : Index := Scalar.indexCast v45
  ![v46.toNat]
def k0_off8 (v47 : BitVec 32) : Fin 3 → Nat :=
  let c0_18 : Index := 0#32
  let v50 : Index := Scalar.indexCast v47
  let c0_19 : Index := 0#32
  ![0, v50.toNat, 0]

def k0_chk4 (v47 : BitVec 32) : Prop :=
  (∀ a, (k0_off8 v47) a + S1x512x128.size a ≤ S2x4096x128.size a)
theorem k0_off8_inb : ∀ (v47 : BitVec 32) (k0_hw4 : k0_chk4 v47), ∀ a, (k0_off8 v47) a + S1x512x128.size a ≤ S2x4096x128.size a := fun v47 k0_hw4 => k0_hw4

def k0_off9 (i : grid0.Coords) : Fin 1 → Nat :=
  let arg0 : BitVec 32 := BitVec.ofNat 32 (i 0).val
  let c2_i32_21 : BitVec 32 := 2#32
  let v56 : BitVec 32 := Scalar.muli arg0 c2_i32_21
  let c0_i32_22 : BitVec 32 := 0#32
  let v57 : BitVec 32 := Scalar.addi v56 c0_i32_22
  let c16_i32_23 : BitVec 32 := 16#32
  let v58 : BitVec 32 := Scalar.muli v57 c16_i32_23
  let c4_i32 : BitVec 32 := 4#32
  let v59 : BitVec 32 := Scalar.addi v58 c4_i32
  let v60 : Index := Scalar.indexCast v59
  ![v60.toNat]
def k0_off10 (v61 : BitVec 32) : Fin 3 → Nat :=
  let c0_24 : Index := 0#32
  let v64 : Index := Scalar.indexCast v61
  let c0_25 : Index := 0#32
  ![0, v64.toNat, 0]

def k0_chk5 (v61 : BitVec 32) : Prop :=
  (∀ a, (k0_off10 v61) a + S1x512x128.size a ≤ S2x4096x128.size a)
theorem k0_off10_inb : ∀ (v61 : BitVec 32) (k0_hw5 : k0_chk5 v61), ∀ a, (k0_off10 v61) a + S1x512x128.size a ≤ S2x4096x128.size a := fun v61 k0_hw5 => k0_hw5

def k0_off11 (i : grid0.Coords) : Fin 1 → Nat :=
  let arg0 : BitVec 32 := BitVec.ofNat 32 (i 0).val
  let c2_i32_27 : BitVec 32 := 2#32
  let v70 : BitVec 32 := Scalar.muli arg0 c2_i32_27
  let c0_i32_28 : BitVec 32 := 0#32
  let v71 : BitVec 32 := Scalar.addi v70 c0_i32_28
  let c16_i32_29 : BitVec 32 := 16#32
  let v72 : BitVec 32 := Scalar.muli v71 c16_i32_29
  let c5_i32 : BitVec 32 := 5#32
  let v73 : BitVec 32 := Scalar.addi v72 c5_i32
  let v74 : Index := Scalar.indexCast v73
  ![v74.toNat]
def k0_off12 (v75 : BitVec 32) : Fin 3 → Nat :=
  let c0_30 : Index := 0#32
  let v78 : Index := Scalar.indexCast v75
  let c0_31 : Index := 0#32
  ![0, v78.toNat, 0]

def k0_chk6 (v75 : BitVec 32) : Prop :=
  (∀ a, (k0_off12 v75) a + S1x512x128.size a ≤ S2x4096x128.size a)
theorem k0_off12_inb : ∀ (v75 : BitVec 32) (k0_hw6 : k0_chk6 v75), ∀ a, (k0_off12 v75) a + S1x512x128.size a ≤ S2x4096x128.size a := fun v75 k0_hw6 => k0_hw6

def k0_off13 (i : grid0.Coords) : Fin 1 → Nat :=
  let arg0 : BitVec 32 := BitVec.ofNat 32 (i 0).val
  let c2_i32_33 : BitVec 32 := 2#32
  let v84 : BitVec 32 := Scalar.muli arg0 c2_i32_33
  let c0_i32_34 : BitVec 32 := 0#32
  let v85 : BitVec 32 := Scalar.addi v84 c0_i32_34
  let c16_i32_35 : BitVec 32 := 16#32
  let v86 : BitVec 32 := Scalar.muli v85 c16_i32_35
  let c6_i32 : BitVec 32 := 6#32
  let v87 : BitVec 32 := Scalar.addi v86 c6_i32
  let v88 : Index := Scalar.indexCast v87
  ![v88.toNat]
def k0_off14 (v89 : BitVec 32) : Fin 3 → Nat :=
  let c0_36 : Index := 0#32
  let v92 : Index := Scalar.indexCast v89
  let c0_37 : Index := 0#32
  ![0, v92.toNat, 0]

def k0_chk7 (v89 : BitVec 32) : Prop :=
  (∀ a, (k0_off14 v89) a + S1x512x128.size a ≤ S2x4096x128.size a)
theorem k0_off14_inb : ∀ (v89 : BitVec 32) (k0_hw7 : k0_chk7 v89), ∀ a, (k0_off14 v89) a + S1x512x128.size a ≤ S2x4096x128.size a := fun v89 k0_hw7 => k0_hw7

def k0_off15 (i : grid0.Coords) : Fin 1 → Nat :=
  let arg0 : BitVec 32 := BitVec.ofNat 32 (i 0).val
  let c2_i32_39 : BitVec 32 := 2#32
  let v98 : BitVec 32 := Scalar.muli arg0 c2_i32_39
  let c0_i32_40 : BitVec 32 := 0#32
  let v99 : BitVec 32 := Scalar.addi v98 c0_i32_40
  let c16_i32_41 : BitVec 32 := 16#32
  let v100 : BitVec 32 := Scalar.muli v99 c16_i32_41
  let c7_i32 : BitVec 32 := 7#32
  let v101 : BitVec 32 := Scalar.addi v100 c7_i32
  let v102 : Index := Scalar.indexCast v101
  ![v102.toNat]
def k0_off16 (v103 : BitVec 32) : Fin 3 → Nat :=
  let c0_42 : Index := 0#32
  let v106 : Index := Scalar.indexCast v103
  let c0_43 : Index := 0#32
  ![0, v106.toNat, 0]

def k0_chk8 (v103 : BitVec 32) : Prop :=
  (∀ a, (k0_off16 v103) a + S1x512x128.size a ≤ S2x4096x128.size a)
theorem k0_off16_inb : ∀ (v103 : BitVec 32) (k0_hw8 : k0_chk8 v103), ∀ a, (k0_off16 v103) a + S1x512x128.size a ≤ S2x4096x128.size a := fun v103 k0_hw8 => k0_hw8

def k0_off17 (i : grid0.Coords) : Fin 1 → Nat :=
  let arg0 : BitVec 32 := BitVec.ofNat 32 (i 0).val
  let c2_i32_45 : BitVec 32 := 2#32
  let v112 : BitVec 32 := Scalar.muli arg0 c2_i32_45
  let c0_i32_46 : BitVec 32 := 0#32
  let v113 : BitVec 32 := Scalar.addi v112 c0_i32_46
  let c16_i32_47 : BitVec 32 := 16#32
  let v114 : BitVec 32 := Scalar.muli v113 c16_i32_47
  let c8_i32 : BitVec 32 := 8#32
  let v115 : BitVec 32 := Scalar.addi v114 c8_i32
  let v116 : Index := Scalar.indexCast v115
  ![v116.toNat]
def k0_off18 (v117 : BitVec 32) : Fin 3 → Nat :=
  let c0_48 : Index := 0#32
  let v120 : Index := Scalar.indexCast v117
  let c0_49 : Index := 0#32
  ![0, v120.toNat, 0]

def k0_chk9 (v117 : BitVec 32) : Prop :=
  (∀ a, (k0_off18 v117) a + S1x512x128.size a ≤ S2x4096x128.size a)
theorem k0_off18_inb : ∀ (v117 : BitVec 32) (k0_hw9 : k0_chk9 v117), ∀ a, (k0_off18 v117) a + S1x512x128.size a ≤ S2x4096x128.size a := fun v117 k0_hw9 => k0_hw9

def k0_off19 (i : grid0.Coords) : Fin 1 → Nat :=
  let arg0 : BitVec 32 := BitVec.ofNat 32 (i 0).val
  let c2_i32_51 : BitVec 32 := 2#32
  let v126 : BitVec 32 := Scalar.muli arg0 c2_i32_51
  let c0_i32_52 : BitVec 32 := 0#32
  let v127 : BitVec 32 := Scalar.addi v126 c0_i32_52
  let c16_i32_53 : BitVec 32 := 16#32
  let v128 : BitVec 32 := Scalar.muli v127 c16_i32_53
  let c9_i32 : BitVec 32 := 9#32
  let v129 : BitVec 32 := Scalar.addi v128 c9_i32
  let v130 : Index := Scalar.indexCast v129
  ![v130.toNat]
def k0_off20 (v131 : BitVec 32) : Fin 3 → Nat :=
  let c0_54 : Index := 0#32
  let v134 : Index := Scalar.indexCast v131
  let c0_55 : Index := 0#32
  ![0, v134.toNat, 0]

def k0_chk10 (v131 : BitVec 32) : Prop :=
  (∀ a, (k0_off20 v131) a + S1x512x128.size a ≤ S2x4096x128.size a)
theorem k0_off20_inb : ∀ (v131 : BitVec 32) (k0_hw10 : k0_chk10 v131), ∀ a, (k0_off20 v131) a + S1x512x128.size a ≤ S2x4096x128.size a := fun v131 k0_hw10 => k0_hw10

def k0_off21 (i : grid0.Coords) : Fin 1 → Nat :=
  let arg0 : BitVec 32 := BitVec.ofNat 32 (i 0).val
  let c2_i32_57 : BitVec 32 := 2#32
  let v140 : BitVec 32 := Scalar.muli arg0 c2_i32_57
  let c0_i32_58 : BitVec 32 := 0#32
  let v141 : BitVec 32 := Scalar.addi v140 c0_i32_58
  let c16_i32_59 : BitVec 32 := 16#32
  let v142 : BitVec 32 := Scalar.muli v141 c16_i32_59
  let c10_i32 : BitVec 32 := 10#32
  let v143 : BitVec 32 := Scalar.addi v142 c10_i32
  let v144 : Index := Scalar.indexCast v143
  ![v144.toNat]
def k0_off22 (v145 : BitVec 32) : Fin 3 → Nat :=
  let c0_60 : Index := 0#32
  let v148 : Index := Scalar.indexCast v145
  let c0_61 : Index := 0#32
  ![0, v148.toNat, 0]

def k0_chk11 (v145 : BitVec 32) : Prop :=
  (∀ a, (k0_off22 v145) a + S1x512x128.size a ≤ S2x4096x128.size a)
theorem k0_off22_inb : ∀ (v145 : BitVec 32) (k0_hw11 : k0_chk11 v145), ∀ a, (k0_off22 v145) a + S1x512x128.size a ≤ S2x4096x128.size a := fun v145 k0_hw11 => k0_hw11

def k0_off23 (i : grid0.Coords) : Fin 1 → Nat :=
  let arg0 : BitVec 32 := BitVec.ofNat 32 (i 0).val
  let c2_i32_63 : BitVec 32 := 2#32
  let v154 : BitVec 32 := Scalar.muli arg0 c2_i32_63
  let c0_i32_64 : BitVec 32 := 0#32
  let v155 : BitVec 32 := Scalar.addi v154 c0_i32_64
  let c16_i32_65 : BitVec 32 := 16#32
  let v156 : BitVec 32 := Scalar.muli v155 c16_i32_65
  let c11_i32 : BitVec 32 := 11#32
  let v157 : BitVec 32 := Scalar.addi v156 c11_i32
  let v158 : Index := Scalar.indexCast v157
  ![v158.toNat]
def k0_off24 (v159 : BitVec 32) : Fin 3 → Nat :=
  let c0_66 : Index := 0#32
  let v162 : Index := Scalar.indexCast v159
  let c0_67 : Index := 0#32
  ![0, v162.toNat, 0]

def k0_chk12 (v159 : BitVec 32) : Prop :=
  (∀ a, (k0_off24 v159) a + S1x512x128.size a ≤ S2x4096x128.size a)
theorem k0_off24_inb : ∀ (v159 : BitVec 32) (k0_hw12 : k0_chk12 v159), ∀ a, (k0_off24 v159) a + S1x512x128.size a ≤ S2x4096x128.size a := fun v159 k0_hw12 => k0_hw12

def k0_off25 (i : grid0.Coords) : Fin 1 → Nat :=
  let arg0 : BitVec 32 := BitVec.ofNat 32 (i 0).val
  let c2_i32_69 : BitVec 32 := 2#32
  let v168 : BitVec 32 := Scalar.muli arg0 c2_i32_69
  let c0_i32_70 : BitVec 32 := 0#32
  let v169 : BitVec 32 := Scalar.addi v168 c0_i32_70
  let c16_i32_71 : BitVec 32 := 16#32
  let v170 : BitVec 32 := Scalar.muli v169 c16_i32_71
  let c12_i32 : BitVec 32 := 12#32
  let v171 : BitVec 32 := Scalar.addi v170 c12_i32
  let v172 : Index := Scalar.indexCast v171
  ![v172.toNat]
def k0_off26 (v173 : BitVec 32) : Fin 3 → Nat :=
  let c0_72 : Index := 0#32
  let v176 : Index := Scalar.indexCast v173
  let c0_73 : Index := 0#32
  ![0, v176.toNat, 0]

def k0_chk13 (v173 : BitVec 32) : Prop :=
  (∀ a, (k0_off26 v173) a + S1x512x128.size a ≤ S2x4096x128.size a)
theorem k0_off26_inb : ∀ (v173 : BitVec 32) (k0_hw13 : k0_chk13 v173), ∀ a, (k0_off26 v173) a + S1x512x128.size a ≤ S2x4096x128.size a := fun v173 k0_hw13 => k0_hw13

def k0_off27 (i : grid0.Coords) : Fin 1 → Nat :=
  let arg0 : BitVec 32 := BitVec.ofNat 32 (i 0).val
  let c2_i32_75 : BitVec 32 := 2#32
  let v182 : BitVec 32 := Scalar.muli arg0 c2_i32_75
  let c0_i32_76 : BitVec 32 := 0#32
  let v183 : BitVec 32 := Scalar.addi v182 c0_i32_76
  let c16_i32_77 : BitVec 32 := 16#32
  let v184 : BitVec 32 := Scalar.muli v183 c16_i32_77
  let c13_i32 : BitVec 32 := 13#32
  let v185 : BitVec 32 := Scalar.addi v184 c13_i32
  let v186 : Index := Scalar.indexCast v185
  ![v186.toNat]
def k0_off28 (v187 : BitVec 32) : Fin 3 → Nat :=
  let c0_78 : Index := 0#32
  let v190 : Index := Scalar.indexCast v187
  let c0_79 : Index := 0#32
  ![0, v190.toNat, 0]

def k0_chk14 (v187 : BitVec 32) : Prop :=
  (∀ a, (k0_off28 v187) a + S1x512x128.size a ≤ S2x4096x128.size a)
theorem k0_off28_inb : ∀ (v187 : BitVec 32) (k0_hw14 : k0_chk14 v187), ∀ a, (k0_off28 v187) a + S1x512x128.size a ≤ S2x4096x128.size a := fun v187 k0_hw14 => k0_hw14

def k0_off29 (i : grid0.Coords) : Fin 1 → Nat :=
  let arg0 : BitVec 32 := BitVec.ofNat 32 (i 0).val
  let c2_i32_81 : BitVec 32 := 2#32
  let v196 : BitVec 32 := Scalar.muli arg0 c2_i32_81
  let c0_i32_82 : BitVec 32 := 0#32
  let v197 : BitVec 32 := Scalar.addi v196 c0_i32_82
  let c16_i32_83 : BitVec 32 := 16#32
  let v198 : BitVec 32 := Scalar.muli v197 c16_i32_83
  let c14_i32 : BitVec 32 := 14#32
  let v199 : BitVec 32 := Scalar.addi v198 c14_i32
  let v200 : Index := Scalar.indexCast v199
  ![v200.toNat]
def k0_off30 (v201 : BitVec 32) : Fin 3 → Nat :=
  let c0_84 : Index := 0#32
  let v204 : Index := Scalar.indexCast v201
  let c0_85 : Index := 0#32
  ![0, v204.toNat, 0]

def k0_chk15 (v201 : BitVec 32) : Prop :=
  (∀ a, (k0_off30 v201) a + S1x512x128.size a ≤ S2x4096x128.size a)
theorem k0_off30_inb : ∀ (v201 : BitVec 32) (k0_hw15 : k0_chk15 v201), ∀ a, (k0_off30 v201) a + S1x512x128.size a ≤ S2x4096x128.size a := fun v201 k0_hw15 => k0_hw15

def k0_off31 (i : grid0.Coords) : Fin 1 → Nat :=
  let arg0 : BitVec 32 := BitVec.ofNat 32 (i 0).val
  let c2_i32_87 : BitVec 32 := 2#32
  let v210 : BitVec 32 := Scalar.muli arg0 c2_i32_87
  let c0_i32_88 : BitVec 32 := 0#32
  let v211 : BitVec 32 := Scalar.addi v210 c0_i32_88
  let c16_i32_89 : BitVec 32 := 16#32
  let v212 : BitVec 32 := Scalar.muli v211 c16_i32_89
  let c15_i32 : BitVec 32 := 15#32
  let v213 : BitVec 32 := Scalar.addi v212 c15_i32
  let v214 : Index := Scalar.indexCast v213
  ![v214.toNat]
def k0_off32 (v215 : BitVec 32) : Fin 3 → Nat :=
  let c0_90 : Index := 0#32
  let v218 : Index := Scalar.indexCast v215
  let c0_91 : Index := 0#32
  ![0, v218.toNat, 0]

def k0_chk16 (v215 : BitVec 32) : Prop :=
  (∀ a, (k0_off32 v215) a + S1x512x128.size a ≤ S2x4096x128.size a)
theorem k0_off32_inb : ∀ (v215 : BitVec 32) (k0_hw16 : k0_chk16 v215), ∀ a, (k0_off32 v215) a + S1x512x128.size a ≤ S2x4096x128.size a := fun v215 k0_hw16 => k0_hw16

def k0_off33 (i : grid0.Coords) : Fin 1 → Nat :=
  let arg0 : BitVec 32 := BitVec.ofNat 32 (i 0).val
  let c2_i32_93 : BitVec 32 := 2#32
  let v224 : BitVec 32 := Scalar.muli arg0 c2_i32_93
  let c1_i32_94 : BitVec 32 := 1#32
  let v225 : BitVec 32 := Scalar.addi v224 c1_i32_94
  let c16_i32_95 : BitVec 32 := 16#32
  let v226 : BitVec 32 := Scalar.muli v225 c16_i32_95
  let c0_i32_96 : BitVec 32 := 0#32
  let v227 : BitVec 32 := Scalar.addi v226 c0_i32_96
  let v228 : Index := Scalar.indexCast v227
  ![v228.toNat]
def k0_off34 (v229 : BitVec 32) : Fin 3 → Nat :=
  let c1 : Index := 1#32
  let v232 : Index := Scalar.indexCast v229
  let c0_97 : Index := 0#32
  ![1, v232.toNat, 0]

def k0_chk17 (v229 : BitVec 32) : Prop :=
  (∀ a, (k0_off34 v229) a + S1x512x128.size a ≤ S2x4096x128.size a)
theorem k0_off34_inb : ∀ (v229 : BitVec 32) (k0_hw17 : k0_chk17 v229), ∀ a, (k0_off34 v229) a + S1x512x128.size a ≤ S2x4096x128.size a := fun v229 k0_hw17 => k0_hw17

def k0_off35 (i : grid0.Coords) : Fin 1 → Nat :=
  let arg0 : BitVec 32 := BitVec.ofNat 32 (i 0).val
  let c2_i32_99 : BitVec 32 := 2#32
  let v238 : BitVec 32 := Scalar.muli arg0 c2_i32_99
  let c1_i32_100 : BitVec 32 := 1#32
  let v239 : BitVec 32 := Scalar.addi v238 c1_i32_100
  let c16_i32_101 : BitVec 32 := 16#32
  let v240 : BitVec 32 := Scalar.muli v239 c16_i32_101
  let c1_i32_102 : BitVec 32 := 1#32
  let v241 : BitVec 32 := Scalar.addi v240 c1_i32_102
  let v242 : Index := Scalar.indexCast v241
  ![v242.toNat]
def k0_off36 (v243 : BitVec 32) : Fin 3 → Nat :=
  let c1_103 : Index := 1#32
  let v246 : Index := Scalar.indexCast v243
  let c0_104 : Index := 0#32
  ![1, v246.toNat, 0]

def k0_chk18 (v243 : BitVec 32) : Prop :=
  (∀ a, (k0_off36 v243) a + S1x512x128.size a ≤ S2x4096x128.size a)
theorem k0_off36_inb : ∀ (v243 : BitVec 32) (k0_hw18 : k0_chk18 v243), ∀ a, (k0_off36 v243) a + S1x512x128.size a ≤ S2x4096x128.size a := fun v243 k0_hw18 => k0_hw18

def k0_off37 (i : grid0.Coords) : Fin 1 → Nat :=
  let arg0 : BitVec 32 := BitVec.ofNat 32 (i 0).val
  let c2_i32_106 : BitVec 32 := 2#32
  let v252 : BitVec 32 := Scalar.muli arg0 c2_i32_106
  let c1_i32_107 : BitVec 32 := 1#32
  let v253 : BitVec 32 := Scalar.addi v252 c1_i32_107
  let c16_i32_108 : BitVec 32 := 16#32
  let v254 : BitVec 32 := Scalar.muli v253 c16_i32_108
  let c2_i32_109 : BitVec 32 := 2#32
  let v255 : BitVec 32 := Scalar.addi v254 c2_i32_109
  let v256 : Index := Scalar.indexCast v255
  ![v256.toNat]
def k0_off38 (v257 : BitVec 32) : Fin 3 → Nat :=
  let c1_110 : Index := 1#32
  let v260 : Index := Scalar.indexCast v257
  let c0_111 : Index := 0#32
  ![1, v260.toNat, 0]

def k0_chk19 (v257 : BitVec 32) : Prop :=
  (∀ a, (k0_off38 v257) a + S1x512x128.size a ≤ S2x4096x128.size a)
theorem k0_off38_inb : ∀ (v257 : BitVec 32) (k0_hw19 : k0_chk19 v257), ∀ a, (k0_off38 v257) a + S1x512x128.size a ≤ S2x4096x128.size a := fun v257 k0_hw19 => k0_hw19

def k0_off39 (i : grid0.Coords) : Fin 1 → Nat :=
  let arg0 : BitVec 32 := BitVec.ofNat 32 (i 0).val
  let c2_i32_113 : BitVec 32 := 2#32
  let v266 : BitVec 32 := Scalar.muli arg0 c2_i32_113
  let c1_i32_114 : BitVec 32 := 1#32
  let v267 : BitVec 32 := Scalar.addi v266 c1_i32_114
  let c16_i32_115 : BitVec 32 := 16#32
  let v268 : BitVec 32 := Scalar.muli v267 c16_i32_115
  let c3_i32_116 : BitVec 32 := 3#32
  let v269 : BitVec 32 := Scalar.addi v268 c3_i32_116
  let v270 : Index := Scalar.indexCast v269
  ![v270.toNat]
def k0_off40 (v271 : BitVec 32) : Fin 3 → Nat :=
  let c1_117 : Index := 1#32
  let v274 : Index := Scalar.indexCast v271
  let c0_118 : Index := 0#32
  ![1, v274.toNat, 0]

def k0_chk20 (v271 : BitVec 32) : Prop :=
  (∀ a, (k0_off40 v271) a + S1x512x128.size a ≤ S2x4096x128.size a)
theorem k0_off40_inb : ∀ (v271 : BitVec 32) (k0_hw20 : k0_chk20 v271), ∀ a, (k0_off40 v271) a + S1x512x128.size a ≤ S2x4096x128.size a := fun v271 k0_hw20 => k0_hw20

def k0_off41 (i : grid0.Coords) : Fin 1 → Nat :=
  let arg0 : BitVec 32 := BitVec.ofNat 32 (i 0).val
  let c2_i32_120 : BitVec 32 := 2#32
  let v280 : BitVec 32 := Scalar.muli arg0 c2_i32_120
  let c1_i32_121 : BitVec 32 := 1#32
  let v281 : BitVec 32 := Scalar.addi v280 c1_i32_121
  let c16_i32_122 : BitVec 32 := 16#32
  let v282 : BitVec 32 := Scalar.muli v281 c16_i32_122
  let c4_i32_123 : BitVec 32 := 4#32
  let v283 : BitVec 32 := Scalar.addi v282 c4_i32_123
  let v284 : Index := Scalar.indexCast v283
  ![v284.toNat]
def k0_off42 (v285 : BitVec 32) : Fin 3 → Nat :=
  let c1_124 : Index := 1#32
  let v288 : Index := Scalar.indexCast v285
  let c0_125 : Index := 0#32
  ![1, v288.toNat, 0]

def k0_chk21 (v285 : BitVec 32) : Prop :=
  (∀ a, (k0_off42 v285) a + S1x512x128.size a ≤ S2x4096x128.size a)
theorem k0_off42_inb : ∀ (v285 : BitVec 32) (k0_hw21 : k0_chk21 v285), ∀ a, (k0_off42 v285) a + S1x512x128.size a ≤ S2x4096x128.size a := fun v285 k0_hw21 => k0_hw21

def k0_off43 (i : grid0.Coords) : Fin 1 → Nat :=
  let arg0 : BitVec 32 := BitVec.ofNat 32 (i 0).val
  let c2_i32_127 : BitVec 32 := 2#32
  let v294 : BitVec 32 := Scalar.muli arg0 c2_i32_127
  let c1_i32_128 : BitVec 32 := 1#32
  let v295 : BitVec 32 := Scalar.addi v294 c1_i32_128
  let c16_i32_129 : BitVec 32 := 16#32
  let v296 : BitVec 32 := Scalar.muli v295 c16_i32_129
  let c5_i32_130 : BitVec 32 := 5#32
  let v297 : BitVec 32 := Scalar.addi v296 c5_i32_130
  let v298 : Index := Scalar.indexCast v297
  ![v298.toNat]
def k0_off44 (v299 : BitVec 32) : Fin 3 → Nat :=
  let c1_131 : Index := 1#32
  let v302 : Index := Scalar.indexCast v299
  let c0_132 : Index := 0#32
  ![1, v302.toNat, 0]

def k0_chk22 (v299 : BitVec 32) : Prop :=
  (∀ a, (k0_off44 v299) a + S1x512x128.size a ≤ S2x4096x128.size a)
theorem k0_off44_inb : ∀ (v299 : BitVec 32) (k0_hw22 : k0_chk22 v299), ∀ a, (k0_off44 v299) a + S1x512x128.size a ≤ S2x4096x128.size a := fun v299 k0_hw22 => k0_hw22

def k0_off45 (i : grid0.Coords) : Fin 1 → Nat :=
  let arg0 : BitVec 32 := BitVec.ofNat 32 (i 0).val
  let c2_i32_134 : BitVec 32 := 2#32
  let v308 : BitVec 32 := Scalar.muli arg0 c2_i32_134
  let c1_i32_135 : BitVec 32 := 1#32
  let v309 : BitVec 32 := Scalar.addi v308 c1_i32_135
  let c16_i32_136 : BitVec 32 := 16#32
  let v310 : BitVec 32 := Scalar.muli v309 c16_i32_136
  let c6_i32_137 : BitVec 32 := 6#32
  let v311 : BitVec 32 := Scalar.addi v310 c6_i32_137
  let v312 : Index := Scalar.indexCast v311
  ![v312.toNat]
def k0_off46 (v313 : BitVec 32) : Fin 3 → Nat :=
  let c1_138 : Index := 1#32
  let v316 : Index := Scalar.indexCast v313
  let c0_139 : Index := 0#32
  ![1, v316.toNat, 0]

def k0_chk23 (v313 : BitVec 32) : Prop :=
  (∀ a, (k0_off46 v313) a + S1x512x128.size a ≤ S2x4096x128.size a)
theorem k0_off46_inb : ∀ (v313 : BitVec 32) (k0_hw23 : k0_chk23 v313), ∀ a, (k0_off46 v313) a + S1x512x128.size a ≤ S2x4096x128.size a := fun v313 k0_hw23 => k0_hw23

def k0_off47 (i : grid0.Coords) : Fin 1 → Nat :=
  let arg0 : BitVec 32 := BitVec.ofNat 32 (i 0).val
  let c2_i32_141 : BitVec 32 := 2#32
  let v322 : BitVec 32 := Scalar.muli arg0 c2_i32_141
  let c1_i32_142 : BitVec 32 := 1#32
  let v323 : BitVec 32 := Scalar.addi v322 c1_i32_142
  let c16_i32_143 : BitVec 32 := 16#32
  let v324 : BitVec 32 := Scalar.muli v323 c16_i32_143
  let c7_i32_144 : BitVec 32 := 7#32
  let v325 : BitVec 32 := Scalar.addi v324 c7_i32_144
  let v326 : Index := Scalar.indexCast v325
  ![v326.toNat]
def k0_off48 (v327 : BitVec 32) : Fin 3 → Nat :=
  let c1_145 : Index := 1#32
  let v330 : Index := Scalar.indexCast v327
  let c0_146 : Index := 0#32
  ![1, v330.toNat, 0]

def k0_chk24 (v327 : BitVec 32) : Prop :=
  (∀ a, (k0_off48 v327) a + S1x512x128.size a ≤ S2x4096x128.size a)
theorem k0_off48_inb : ∀ (v327 : BitVec 32) (k0_hw24 : k0_chk24 v327), ∀ a, (k0_off48 v327) a + S1x512x128.size a ≤ S2x4096x128.size a := fun v327 k0_hw24 => k0_hw24

def k0_off49 (i : grid0.Coords) : Fin 1 → Nat :=
  let arg0 : BitVec 32 := BitVec.ofNat 32 (i 0).val
  let c2_i32_148 : BitVec 32 := 2#32
  let v336 : BitVec 32 := Scalar.muli arg0 c2_i32_148
  let c1_i32_149 : BitVec 32 := 1#32
  let v337 : BitVec 32 := Scalar.addi v336 c1_i32_149
  let c16_i32_150 : BitVec 32 := 16#32
  let v338 : BitVec 32 := Scalar.muli v337 c16_i32_150
  let c8_i32_151 : BitVec 32 := 8#32
  let v339 : BitVec 32 := Scalar.addi v338 c8_i32_151
  let v340 : Index := Scalar.indexCast v339
  ![v340.toNat]
def k0_off50 (v341 : BitVec 32) : Fin 3 → Nat :=
  let c1_152 : Index := 1#32
  let v344 : Index := Scalar.indexCast v341
  let c0_153 : Index := 0#32
  ![1, v344.toNat, 0]

def k0_chk25 (v341 : BitVec 32) : Prop :=
  (∀ a, (k0_off50 v341) a + S1x512x128.size a ≤ S2x4096x128.size a)
theorem k0_off50_inb : ∀ (v341 : BitVec 32) (k0_hw25 : k0_chk25 v341), ∀ a, (k0_off50 v341) a + S1x512x128.size a ≤ S2x4096x128.size a := fun v341 k0_hw25 => k0_hw25

def k0_off51 (i : grid0.Coords) : Fin 1 → Nat :=
  let arg0 : BitVec 32 := BitVec.ofNat 32 (i 0).val
  let c2_i32_155 : BitVec 32 := 2#32
  let v350 : BitVec 32 := Scalar.muli arg0 c2_i32_155
  let c1_i32_156 : BitVec 32 := 1#32
  let v351 : BitVec 32 := Scalar.addi v350 c1_i32_156
  let c16_i32_157 : BitVec 32 := 16#32
  let v352 : BitVec 32 := Scalar.muli v351 c16_i32_157
  let c9_i32_158 : BitVec 32 := 9#32
  let v353 : BitVec 32 := Scalar.addi v352 c9_i32_158
  let v354 : Index := Scalar.indexCast v353
  ![v354.toNat]
def k0_off52 (v355 : BitVec 32) : Fin 3 → Nat :=
  let c1_159 : Index := 1#32
  let v358 : Index := Scalar.indexCast v355
  let c0_160 : Index := 0#32
  ![1, v358.toNat, 0]

def k0_chk26 (v355 : BitVec 32) : Prop :=
  (∀ a, (k0_off52 v355) a + S1x512x128.size a ≤ S2x4096x128.size a)
theorem k0_off52_inb : ∀ (v355 : BitVec 32) (k0_hw26 : k0_chk26 v355), ∀ a, (k0_off52 v355) a + S1x512x128.size a ≤ S2x4096x128.size a := fun v355 k0_hw26 => k0_hw26

def k0_off53 (i : grid0.Coords) : Fin 1 → Nat :=
  let arg0 : BitVec 32 := BitVec.ofNat 32 (i 0).val
  let c2_i32_162 : BitVec 32 := 2#32
  let v364 : BitVec 32 := Scalar.muli arg0 c2_i32_162
  let c1_i32_163 : BitVec 32 := 1#32
  let v365 : BitVec 32 := Scalar.addi v364 c1_i32_163
  let c16_i32_164 : BitVec 32 := 16#32
  let v366 : BitVec 32 := Scalar.muli v365 c16_i32_164
  let c10_i32_165 : BitVec 32 := 10#32
  let v367 : BitVec 32 := Scalar.addi v366 c10_i32_165
  let v368 : Index := Scalar.indexCast v367
  ![v368.toNat]
def k0_off54 (v369 : BitVec 32) : Fin 3 → Nat :=
  let c1_166 : Index := 1#32
  let v372 : Index := Scalar.indexCast v369
  let c0_167 : Index := 0#32
  ![1, v372.toNat, 0]

def k0_chk27 (v369 : BitVec 32) : Prop :=
  (∀ a, (k0_off54 v369) a + S1x512x128.size a ≤ S2x4096x128.size a)
theorem k0_off54_inb : ∀ (v369 : BitVec 32) (k0_hw27 : k0_chk27 v369), ∀ a, (k0_off54 v369) a + S1x512x128.size a ≤ S2x4096x128.size a := fun v369 k0_hw27 => k0_hw27

def k0_off55 (i : grid0.Coords) : Fin 1 → Nat :=
  let arg0 : BitVec 32 := BitVec.ofNat 32 (i 0).val
  let c2_i32_169 : BitVec 32 := 2#32
  let v378 : BitVec 32 := Scalar.muli arg0 c2_i32_169
  let c1_i32_170 : BitVec 32 := 1#32
  let v379 : BitVec 32 := Scalar.addi v378 c1_i32_170
  let c16_i32_171 : BitVec 32 := 16#32
  let v380 : BitVec 32 := Scalar.muli v379 c16_i32_171
  let c11_i32_172 : BitVec 32 := 11#32
  let v381 : BitVec 32 := Scalar.addi v380 c11_i32_172
  let v382 : Index := Scalar.indexCast v381
  ![v382.toNat]
def k0_off56 (v383 : BitVec 32) : Fin 3 → Nat :=
  let c1_173 : Index := 1#32
  let v386 : Index := Scalar.indexCast v383
  let c0_174 : Index := 0#32
  ![1, v386.toNat, 0]

def k0_chk28 (v383 : BitVec 32) : Prop :=
  (∀ a, (k0_off56 v383) a + S1x512x128.size a ≤ S2x4096x128.size a)
theorem k0_off56_inb : ∀ (v383 : BitVec 32) (k0_hw28 : k0_chk28 v383), ∀ a, (k0_off56 v383) a + S1x512x128.size a ≤ S2x4096x128.size a := fun v383 k0_hw28 => k0_hw28

def k0_off57 (i : grid0.Coords) : Fin 1 → Nat :=
  let arg0 : BitVec 32 := BitVec.ofNat 32 (i 0).val
  let c2_i32_176 : BitVec 32 := 2#32
  let v392 : BitVec 32 := Scalar.muli arg0 c2_i32_176
  let c1_i32_177 : BitVec 32 := 1#32
  let v393 : BitVec 32 := Scalar.addi v392 c1_i32_177
  let c16_i32_178 : BitVec 32 := 16#32
  let v394 : BitVec 32 := Scalar.muli v393 c16_i32_178
  let c12_i32_179 : BitVec 32 := 12#32
  let v395 : BitVec 32 := Scalar.addi v394 c12_i32_179
  let v396 : Index := Scalar.indexCast v395
  ![v396.toNat]
def k0_off58 (v397 : BitVec 32) : Fin 3 → Nat :=
  let c1_180 : Index := 1#32
  let v400 : Index := Scalar.indexCast v397
  let c0_181 : Index := 0#32
  ![1, v400.toNat, 0]

def k0_chk29 (v397 : BitVec 32) : Prop :=
  (∀ a, (k0_off58 v397) a + S1x512x128.size a ≤ S2x4096x128.size a)
theorem k0_off58_inb : ∀ (v397 : BitVec 32) (k0_hw29 : k0_chk29 v397), ∀ a, (k0_off58 v397) a + S1x512x128.size a ≤ S2x4096x128.size a := fun v397 k0_hw29 => k0_hw29

def k0_off59 (i : grid0.Coords) : Fin 1 → Nat :=
  let arg0 : BitVec 32 := BitVec.ofNat 32 (i 0).val
  let c2_i32_183 : BitVec 32 := 2#32
  let v406 : BitVec 32 := Scalar.muli arg0 c2_i32_183
  let c1_i32_184 : BitVec 32 := 1#32
  let v407 : BitVec 32 := Scalar.addi v406 c1_i32_184
  let c16_i32_185 : BitVec 32 := 16#32
  let v408 : BitVec 32 := Scalar.muli v407 c16_i32_185
  let c13_i32_186 : BitVec 32 := 13#32
  let v409 : BitVec 32 := Scalar.addi v408 c13_i32_186
  let v410 : Index := Scalar.indexCast v409
  ![v410.toNat]
def k0_off60 (v411 : BitVec 32) : Fin 3 → Nat :=
  let c1_187 : Index := 1#32
  let v414 : Index := Scalar.indexCast v411
  let c0_188 : Index := 0#32
  ![1, v414.toNat, 0]

def k0_chk30 (v411 : BitVec 32) : Prop :=
  (∀ a, (k0_off60 v411) a + S1x512x128.size a ≤ S2x4096x128.size a)
theorem k0_off60_inb : ∀ (v411 : BitVec 32) (k0_hw30 : k0_chk30 v411), ∀ a, (k0_off60 v411) a + S1x512x128.size a ≤ S2x4096x128.size a := fun v411 k0_hw30 => k0_hw30

def k0_off61 (i : grid0.Coords) : Fin 1 → Nat :=
  let arg0 : BitVec 32 := BitVec.ofNat 32 (i 0).val
  let c2_i32_190 : BitVec 32 := 2#32
  let v420 : BitVec 32 := Scalar.muli arg0 c2_i32_190
  let c1_i32_191 : BitVec 32 := 1#32
  let v421 : BitVec 32 := Scalar.addi v420 c1_i32_191
  let c16_i32_192 : BitVec 32 := 16#32
  let v422 : BitVec 32 := Scalar.muli v421 c16_i32_192
  let c14_i32_193 : BitVec 32 := 14#32
  let v423 : BitVec 32 := Scalar.addi v422 c14_i32_193
  let v424 : Index := Scalar.indexCast v423
  ![v424.toNat]
def k0_off62 (v425 : BitVec 32) : Fin 3 → Nat :=
  let c1_194 : Index := 1#32
  let v428 : Index := Scalar.indexCast v425
  let c0_195 : Index := 0#32
  ![1, v428.toNat, 0]

def k0_chk31 (v425 : BitVec 32) : Prop :=
  (∀ a, (k0_off62 v425) a + S1x512x128.size a ≤ S2x4096x128.size a)
theorem k0_off62_inb : ∀ (v425 : BitVec 32) (k0_hw31 : k0_chk31 v425), ∀ a, (k0_off62 v425) a + S1x512x128.size a ≤ S2x4096x128.size a := fun v425 k0_hw31 => k0_hw31

def k0_off63 (i : grid0.Coords) : Fin 1 → Nat :=
  let arg0 : BitVec 32 := BitVec.ofNat 32 (i 0).val
  let c2_i32_197 : BitVec 32 := 2#32
  let v434 : BitVec 32 := Scalar.muli arg0 c2_i32_197
  let c1_i32_198 : BitVec 32 := 1#32
  let v435 : BitVec 32 := Scalar.addi v434 c1_i32_198
  let c16_i32_199 : BitVec 32 := 16#32
  let v436 : BitVec 32 := Scalar.muli v435 c16_i32_199
  let c15_i32_200 : BitVec 32 := 15#32
  let v437 : BitVec 32 := Scalar.addi v436 c15_i32_200
  let v438 : Index := Scalar.indexCast v437
  ![v438.toNat]
def k0_off64 (v439 : BitVec 32) : Fin 3 → Nat :=
  let c1_201 : Index := 1#32
  let v442 : Index := Scalar.indexCast v439
  let c0_202 : Index := 0#32
  ![1, v442.toNat, 0]

def k0_chk32 (v439 : BitVec 32) : Prop :=
  (∀ a, (k0_off64 v439) a + S1x512x128.size a ≤ S2x4096x128.size a)
theorem k0_off64_inb : ∀ (v439 : BitVec 32) (k0_hw32 : k0_chk32 v439), ∀ a, (k0_off64 v439) a + S1x512x128.size a ≤ S2x4096x128.size a := fun v439 k0_hw32 => k0_hw32

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S2x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x2x16x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32x4096x128 : Shape := ⟨3, ![32, 4096, 128]⟩
abbrev S32x16 : Shape := ⟨2, ![32, 16]⟩
abbrev S512 : Shape := ⟨1, ![512]⟩
abbrev S4096 : Shape := ⟨1, ![4096]⟩
abbrev S_ : Shape := ⟨0, ![]⟩
abbrev S1x4096 : Shape := ⟨2, ![1, 4096]⟩
abbrev S32x4096 : Shape := ⟨2, ![32, 4096]⟩
abbrev S32x16x1 : Shape := ⟨3, ![32, 16, 1]⟩
abbrev S1x1x512 : Shape := ⟨3, ![1, 1, 512]⟩
abbrev S32x16x512 : Shape := ⟨3, ![32, 16, 512]⟩
abbrev S64 : Shape := ⟨1, ![64]⟩
abbrev S1x1x64 : Shape := ⟨3, ![1, 1, 64]⟩
abbrev S32x16x64 : Shape := ⟨3, ![32, 16, 64]⟩
abbrev S32 : Shape := ⟨1, ![32]⟩
abbrev S32x1x1x1 : Shape := ⟨4, ![32, 1, 1, 1]⟩
abbrev S32x16x512x1 : Shape := ⟨4, ![32, 16, 512, 1]⟩
abbrev S32x16x1x64 : Shape := ⟨4, ![32, 16, 1, 64]⟩
abbrev S32x16x512x64 : Shape := ⟨4, ![32, 16, 512, 64]⟩
abbrev S32x16x512x64x1 : Shape := ⟨5, ![32, 16, 512, 64, 1]⟩
abbrev S32x16x512x64x3 : Shape := ⟨5, ![32, 16, 512, 64, 3]⟩
abbrev S512x1 : Shape := ⟨2, ![512, 1]⟩
abbrev S1x512 : Shape := ⟨2, ![1, 512]⟩
abbrev S512x512 : Shape := ⟨2, ![512, 512]⟩
abbrev S512x512x1 : Shape := ⟨3, ![512, 512, 1]⟩
abbrev S512x32x16x64 : Shape := ⟨4, ![512, 32, 16, 64]⟩
abbrev S32x16x512x64x2 : Shape := ⟨5, ![32, 16, 512, 64, 2]⟩

abbrev nBuf : Space → Nat
  | .hbm => 153
  | .vmem => 0
  | .smem => 0
  | _ => 0

abbrev hbmTy0_0 (i : Nat) : BufTy := match i % 128 with
  | 0 => ⟨S32x4096x128, .f32⟩
  | 1 => ⟨S32x16, .i32⟩
  | 2 => ⟨S32x16, .i32⟩
  | 3 => ⟨S512, .f32⟩
  | 4 => ⟨S512, .f32⟩
  | 5 => ⟨S4096, .f32⟩
  | 6 => ⟨S_, .f32⟩
  | 7 => ⟨S4096, .f32⟩
  | 8 => ⟨S4096, .f32⟩
  | 9 => ⟨S1x4096, .f32⟩
  | 10 => ⟨S32x4096, .f32⟩
  | 11 => ⟨S32x16x1, .i32⟩
  | 12 => ⟨S512, .i32⟩
  | 13 => ⟨S1x1x512, .i32⟩
  | 14 => ⟨S32x16x512, .i32⟩
  | 15 => ⟨S32x16x512, .i32⟩
  | 16 => ⟨S32x16x512, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S32x16x512, .i32⟩
  | 24 => ⟨S32x16x512, .i32⟩
  | 25 => ⟨S_, .i32⟩
  | 26 => ⟨S32x16x512, .i32⟩
  | 27 => ⟨S32x16x512, .i1⟩
  | 28 => ⟨S_, .i32⟩
  | 29 => ⟨S32x16x512, .i32⟩
  | 30 => ⟨S32x16x512, .i1⟩
  | 31 => ⟨S_, .i32⟩
  | 32 => ⟨S_, .i1⟩
  | 33 => ⟨S32x16x512, .i1⟩
  | 34 => ⟨S32x16x512, .i1⟩
  | 35 => ⟨S32x16x512, .i1⟩
  | 36 => ⟨S32x16x512, .i32⟩
  | 37 => ⟨S32x16x512, .i32⟩
  | 38 => ⟨S32x16x512, .i32⟩
  | 39 => ⟨S32x16x1, .i32⟩
  | 40 => ⟨S64, .i32⟩
  | 41 => ⟨S1x1x64, .i32⟩
  | 42 => ⟨S32x16x64, .i32⟩
  | 43 => ⟨S32x16x64, .i32⟩
  | 44 => ⟨S32x16x64, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S32x16x64, .i32⟩
  | 52 => ⟨S32x16x64, .i32⟩
  | 53 => ⟨S_, .i32⟩
  | 54 => ⟨S32x16x64, .i32⟩
  | 55 => ⟨S32x16x64, .i1⟩
  | 56 => ⟨S_, .i32⟩
  | 57 => ⟨S32x16x64, .i32⟩
  | 58 => ⟨S32x16x64, .i1⟩
  | 59 => ⟨S_, .i32⟩
  | 60 => ⟨S_, .i1⟩
  | 61 => ⟨S32x16x64, .i1⟩
  | 62 => ⟨S32x16x64, .i1⟩
  | 63 => ⟨S32x16x64, .i1⟩
  | 64 => ⟨S32x16x64, .i32⟩
  | 65 => ⟨S32x16x64, .i32⟩
  | 66 => ⟨S32x16x64, .i32⟩
  | 67 => ⟨S32, .i32⟩
  | 68 => ⟨S32x1x1x1, .i32⟩
  | 69 => ⟨S32x16x512x1, .i32⟩
  | 70 => ⟨S32x16x1x64, .i32⟩
  | 71 => ⟨S_, .i32⟩
  | 72 => ⟨S32x1x1x1, .i32⟩
  | 73 => ⟨S32x1x1x1, .i1⟩
  | 74 => ⟨S_, .i32⟩
  | 75 => ⟨S32x1x1x1, .i32⟩
  | 76 => ⟨S32x1x1x1, .i32⟩
  | 77 => ⟨S32x1x1x1, .i32⟩
  | 78 => ⟨S_, .i32⟩
  | 79 => ⟨S32x16x512x1, .i32⟩
  | 80 => ⟨S32x16x512x1, .i1⟩
  | 81 => ⟨S_, .i32⟩
  | 82 => ⟨S32x16x512x1, .i32⟩
  | 83 => ⟨S32x16x512x1, .i32⟩
  | 84 => ⟨S32x16x512x1, .i32⟩
  | 85 => ⟨S_, .i32⟩
  | 86 => ⟨S32x16x1x64, .i32⟩
  | 87 => ⟨S32x16x1x64, .i1⟩
  | 88 => ⟨S_, .i32⟩
  | 89 => ⟨S32x16x1x64, .i32⟩
  | 90 => ⟨S32x16x1x64, .i32⟩
  | 91 => ⟨S32x16x1x64, .i32⟩
  | 92 => ⟨S32x16x512x64, .i32⟩
  | 93 => ⟨S32x16x512x64, .i32⟩
  | 94 => ⟨S32x16x512x64, .i32⟩
  | 95 => ⟨S32x16x512x64x1, .i32⟩
  | 96 => ⟨S32x16x512x64x1, .i32⟩
  | 97 => ⟨S32x16x512x64x1, .i32⟩
  | 98 => ⟨S32x16x512x64x3, .i32⟩
  | 99 => ⟨S32x16x512x64, .f32⟩
  | 100 => ⟨S512, .i32⟩
  | 101 => ⟨S512x1, .i32⟩
  | 102 => ⟨S1x512, .i32⟩
  | 103 => ⟨S512x512, .i32⟩
  | 104 => ⟨S512x512, .i32⟩
  | 105 => ⟨S512x512, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S512x512, .i32⟩
  | 113 => ⟨S512x512, .i32⟩
  | 114 => ⟨S_, .i32⟩
  | 115 => ⟨S512x512, .i32⟩
  | 116 => ⟨S512x512, .i1⟩
  | 117 => ⟨S_, .i32⟩
  | 118 => ⟨S512x512, .i32⟩
  | 119 => ⟨S512x512, .i1⟩
  | 120 => ⟨S_, .i32⟩
  | 121 => ⟨S_, .i1⟩
  | 122 => ⟨S512x512, .i1⟩
  | 123 => ⟨S512x512, .i1⟩
  | 124 => ⟨S512x512, .i1⟩
  | 125 => ⟨S512x512, .i32⟩
  | 126 => ⟨S512x512, .i32⟩
  | 127 => ⟨S512x512, .i32⟩
  | _ => ⟨S32x4096x128, .f32⟩

abbrev hbmTy0_1 (i : Nat) : BufTy := match i % 128 with
  | 0 => ⟨S_, .i32⟩
  | 1 => ⟨S512x512, .i32⟩
  | 2 => ⟨S512x512, .i1⟩
  | 3 => ⟨S_, .i32⟩
  | 4 => ⟨S512x512, .i32⟩
  | 5 => ⟨S512x512, .i32⟩
  | 6 => ⟨S512x512, .i32⟩
  | 7 => ⟨S512x512x1, .i32⟩
  | 8 => ⟨S512x512, .f32⟩
  | 9 => ⟨S512x32x16x64, .f32⟩
  | 10 => ⟨S32x16x512x64, .f32⟩
  | 11 => ⟨S_, .i32⟩
  | 12 => ⟨S512x512, .i32⟩
  | 13 => ⟨S512x512, .i1⟩
  | 14 => ⟨S_, .i32⟩
  | 15 => ⟨S512x512, .i32⟩
  | 16 => ⟨S512x512, .i32⟩
  | 17 => ⟨S512x512, .i32⟩
  | 18 => ⟨S512x512x1, .i32⟩
  | 19 => ⟨S512x512, .f32⟩
  | 20 => ⟨S512x32x16x64, .f32⟩
  | 21 => ⟨S32x16x512x64, .f32⟩
  | 22 => ⟨S32x16x512x64x1, .f32⟩
  | 23 => ⟨S32x16x512x64x1, .f32⟩
  | 24 => ⟨S32x16x512x64x2, .f32⟩
  | _ => ⟨S32x4096x128, .f32⟩

abbrev hbmTy (i : Nat) : BufTy := match i / 128 with
  | 0 => hbmTy0_0 i
  | 1 => hbmTy0_1 i
  | _ => ⟨S32x4096x128, .f32⟩

abbrev bufTy : (tb : Table) → Fin (tcTables nBuf tb) → BufTy
  | .hbm, ⟨i, _⟩ => hbmTy i
  | _, _ => ⟨S32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_cst : Ref sig .tc := ⟨.hbm, 3, rfl⟩
abbrev main_cst_1 : Ref sig .tc := ⟨.hbm, 4, rfl⟩
abbrev main_v0 : Ref sig .tc := ⟨.hbm, 5, rfl⟩
abbrev main_cst_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_3 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_4 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_c_5 : Ref sig .tc := ⟨.hbm, 71, rfl⟩
abbrev main_v23 : Ref sig .tc := ⟨.hbm, 72, rfl⟩
abbrev main_v24 : Ref sig .tc := ⟨.hbm, 73, rfl⟩
abbrev main_c_6 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_c_7 : Ref sig .tc := ⟨.hbm, 78, rfl⟩
abbrev main_v28 : Ref sig .tc := ⟨.hbm, 79, rfl⟩
abbrev main_v29 : Ref sig .tc := ⟨.hbm, 80, rfl⟩
abbrev main_c_8 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_c_9 : Ref sig .tc := ⟨.hbm, 85, rfl⟩
abbrev main_v33 : Ref sig .tc := ⟨.hbm, 86, rfl⟩
abbrev main_v34 : Ref sig .tc := ⟨.hbm, 87, rfl⟩
abbrev main_c_10 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_c_11 : Ref sig .tc := ⟨.hbm, 106, rfl⟩
abbrev main_call2_v0 : Ref sig .tc := ⟨.hbm, 107, rfl⟩
abbrev main_call2_c : Ref sig .tc := ⟨.hbm, 108, rfl⟩
abbrev main_call2_v1 : Ref sig .tc := ⟨.hbm, 109, rfl⟩
abbrev main_call2_c_0 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_c_1 : Ref sig .tc := ⟨.hbm, 114, rfl⟩
abbrev main_call2_v5 : Ref sig .tc := ⟨.hbm, 115, rfl⟩
abbrev main_call2_v6 : Ref sig .tc := ⟨.hbm, 116, rfl⟩
abbrev main_call2_c_2 : Ref sig .tc := ⟨.hbm, 117, rfl⟩
abbrev main_call2_v7 : Ref sig .tc := ⟨.hbm, 118, rfl⟩
abbrev main_call2_v8 : Ref sig .tc := ⟨.hbm, 119, rfl⟩
abbrev main_call2_c_3 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_v12 : Ref sig .tc := ⟨.hbm, 124, rfl⟩
abbrev main_call2_v13 : Ref sig .tc := ⟨.hbm, 125, rfl⟩
abbrev main_call2_v14 : Ref sig .tc := ⟨.hbm, 126, rfl⟩
abbrev main_v52 : Ref sig .tc := ⟨.hbm, 127, rfl⟩
abbrev main_c_12 : Ref sig .tc := ⟨.hbm, 128, rfl⟩
abbrev main_v53 : Ref sig .tc := ⟨.hbm, 129, rfl⟩
abbrev main_v54 : Ref sig .tc := ⟨.hbm, 130, rfl⟩
abbrev main_c_13 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_c_14 : Ref sig .tc := ⟨.hbm, 139, rfl⟩
abbrev main_v62 : Ref sig .tc := ⟨.hbm, 140, rfl⟩
abbrev main_v63 : Ref sig .tc := ⟨.hbm, 141, rfl⟩
abbrev main_c_15 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩

abbrev nD : Nat := 1
abbrev τ : Topo := Topo.v7x

variable {F : FTy → Type} [FloatOps F]
-- ==== Proof.StartsBits.lean ====
/- The row starts of `Kernel` (the kernel at machine floats) and the side conditions of its loads: every row start is at
   most 3584, hence every patch lies inside its block of `x`. -/
module

public import proofs.«01_k».proof.Proof.Gen.Kernel.Frame
public import Idealize.ShloMosaic.Lib.Pipeline.ValueKit.Tiles
public import Idealize.ShloMosaic.Lib.Tactic

@[expose] public section

set_option maxRecDepth 16384

noncomputable section

namespace Cert.Kernel.Starts

open Idealize.ShloMosaic Idealize.ShloMosaic.TcCoe Idealize.ShloMosaic.Tactic
open Cert.Kernel.Gen

/-- Every row start leaves room for 512 rows of 4096. -/
theorem rows_le (i : Fin 512) : (lit2 i).toNat ≤ 3584 := by
  revert i; decide +kernel

/-- 512 rows from a start of at most 3584 lie inside a block of two batch entries. -/
theorem inside_of_le (b : Nat) (hb : b < 2) (w : BitVec 32) (hw : w.toNat ≤ 3584) (a : Fin 3) :
    (![b, (Scalar.indexCast w).toNat, 0] : Fin 3 → Nat) a + S1x512x128.size a ≤ S2x4096x128.size a := by
  match a with
  | ⟨0, _⟩ => show b + 1 ≤ 2; omega
  | ⟨1, _⟩ => show w.toNat + 512 ≤ 4096; omega
  | ⟨2, _⟩ => show 0 + 128 ≤ 128; omega

variable {F : FTy → Type} [FloatOps F] (m : (ℓ : Loc nD τ sig) → Buf (Elt F) ℓ)

/-- The table of row starts as the kernel finds it. -/
theorem tbl_rows : tbl m 0 = fun i : S512.Idx => lit2 (S512.rowMajor i) := by
  show StableHlo.after _ _ _ = _
  simp only [hostOps0, hostOps0_1, hostOps0_2, List.flatten_cons, List.flatten_nil, List.append_nil, List.cons_append,
    List.nil_append, StableHlo.TRef.binary, StableHlo.TRef.nullary, StableHlo.TRef.ternary, StableHlo.TRef.unary,
    StableHlo.TRef.toBuf, StableHlo.TRef.ofBuf, cast_eq]
  after_results_simp <;> rfl

/-- A word read from the table of row starts is the start at its offset. -/
theorem row_word (off : Fin 1 → Nat) (inb : ∀ a, off a + S1.size a ≤ S512.size a) (k : Fin 512) (hk : k.val = off 0) :
    (tbM0_0.view.readAt (Elt F) (Rect.unit (s := S512) off S1.size inb).toLoadRect (tbl m 0)
      (Shape.Idx.first (numel1_S1.symm ▸ Nat.one_pos)) : BitVec 32) = lit2 k := by
  rw [tbl_rows]
  refine congrArg lit2 (Fin.ext ?_)
  refine (Shape.rowMajor_val_one _).trans ?_
  rw [hk]
  rfl

/-- Every word read from the table of row starts is at most 3584. -/
theorem row_word_le (off : Fin 1 → Nat) (inb : ∀ a, off a + S1.size a ≤ S512.size a) :
    (tbM0_0.view.readAt (Elt F) (Rect.unit (s := S512) off S1.size inb).toLoadRect (tbl m 0)
      (Shape.Idx.first (numel1_S1.symm ▸ Nat.one_pos)) : BitVec 32).toNat ≤ 3584 := by
  rw [row_word m off inb ⟨off 0, inb 0⟩ rfl]
  exact rows_le _

/-- The pipeline asks nothing of the tables. -/
theorem ok : Ok m := trivial

/-- The side conditions the body assumes hold at every point. -/
theorem hyps : Hyps m (ok m) := by
  refine Hyps.of ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> intro c t
  all_goals
    first
      | exact inside_of_le 0 (by decide) _ (row_word_le m _ _)
      | exact inside_of_le 1 (by decide) _ (row_word_le m _ _)

end Cert.Kernel.Starts

end
-- ==== Proof.Starts.lean ====
/- The start tables of `KernelIdeal` and the side conditions of its loads: what the two tables hold when the kernel runs,
   that every row start is at most 3584 and every channel start at most 64, and hence that every patch lies inside its
   block of `x`. -/
module

public import proofs.«01_k».proof.Proof.Gen.KernelIdeal.Frame
public import Idealize.ShloMosaic.Lib.Pipeline.ValueKit.Tiles
public import Idealize.ShloMosaic.Lib.Tactic

@[expose] public section

set_option maxRecDepth 16384

noncomputable section

namespace Cert.KernelIdeal.Starts

open Idealize.ShloMosaic Idealize.ShloMosaic.TcCoe Idealize.ShloMosaic.Tactic
open Cert.KernelIdeal.Gen

/-- Every row start leaves room for 512 rows of 4096. -/
theorem rows_le (i : Fin 512) : (lit2 i).toNat ≤ 3584 := by
  revert i; decide +kernel

/-- Every channel start leaves room for 64 channels of 128. -/
theorem chans_le (i : Fin 512) : (lit3 i).toNat ≤ 64 := by
  revert i; decide +kernel

/-- 512 rows from a start of at most 3584 lie inside a block of two batch entries. -/
theorem inside_of_le (b : Nat) (hb : b < 2) (w : BitVec 32) (hw : w.toNat ≤ 3584) (a : Fin 3) :
    (![b, (Scalar.indexCast w).toNat, 0] : Fin 3 → Nat) a + S1x512x128.size a ≤ S2x4096x128.size a := by
  match a with
  | ⟨0, _⟩ => show b + 1 ≤ 2; omega
  | ⟨1, _⟩ => show w.toNat + 512 ≤ 4096; omega
  | ⟨2, _⟩ => show 0 + 128 ≤ 128; omega

variable {F : FTy → Type} [FloatOps F] (m : (ℓ : Loc nD τ sig) → Buf (Elt F) ℓ)

/-- The table of row starts as the kernel finds it. -/
theorem tbl_rows : tbl m 0 = fun i : S512.Idx => lit2 (S512.rowMajor i) := by
  show StableHlo.after _ _ _ = _
  simp only [hostOps0, hostOps0_1, hostOps0_2, List.flatten_cons, List.flatten_nil, List.append_nil, List.cons_append,
    List.nil_append, StableHlo.TRef.binary, StableHlo.TRef.nullary, StableHlo.TRef.ternary, StableHlo.TRef.unary,
    StableHlo.TRef.toBuf, StableHlo.TRef.ofBuf, cast_eq]
  after_results_simp <;> rfl

/-- The table of channel starts as the kernel finds it. -/
theorem tbl_chans : tbl m 1 = fun i : S512.Idx => lit3 (S512.rowMajor i) := by
  show StableHlo.after _ _ _ = _
  simp only [hostOps0, hostOps0_1, hostOps0_2, List.flatten_cons, List.flatten_nil, List.append_nil, List.cons_append,
    List.nil_append, StableHlo.TRef.binary, StableHlo.TRef.nullary, StableHlo.TRef.ternary, StableHlo.TRef.unary,
    StableHlo.TRef.toBuf, StableHlo.TRef.ofBuf, cast_eq]
  after_results_simp <;> rfl

/-- A word read from the table of row starts is the start at its offset. -/
theorem row_word (off : Fin 1 → Nat) (inb : ∀ a, off a + S1.size a ≤ S512.size a) (k : Fin 512) (hk : k.val = off 0) :
    (tbM0_0.view.readAt (Elt F) (Rect.unit (s := S512) off S1.size inb).toLoadRect (tbl m 0)
      (Shape.Idx.first (numel1_S1.symm ▸ Nat.one_pos)) : BitVec 32) = lit2 k := by
  rw [tbl_rows]
  refine congrArg lit2 (Fin.ext ?_)
  refine (Shape.rowMajor_val_one _).trans ?_
  rw [hk]
  rfl

/-- A word read from the table of channel starts is the start at its offset. -/
theorem chan_word (off : Fin 1 → Nat) (inb : ∀ a, off a + S1.size a ≤ S512.size a) (k : Fin 512) (hk : k.val = off 0) :
    (tbM0_1.view.readAt (Elt F) (Rect.unit (s := S512) off S1.size inb).toLoadRect (tbl m 1)
      (Shape.Idx.first (numel1_S1.symm ▸ Nat.one_pos)) : BitVec 32) = lit3 k := by
  rw [tbl_chans]
  refine congrArg lit3 (Fin.ext ?_)
  refine (Shape.rowMajor_val_one _).trans ?_
  rw [hk]
  rfl

/-- Every word read from the table of row starts is at most 3584. -/
theorem row_word_le (off : Fin 1 → Nat) (inb : ∀ a, off a + S1.size a ≤ S512.size a) :
    (tbM0_0.view.readAt (Elt F) (Rect.unit (s := S512) off S1.size inb).toLoadRect (tbl m 0)
      (Shape.Idx.first (numel1_S1.symm ▸ Nat.one_pos)) : BitVec 32).toNat ≤ 3584 := by
  rw [row_word m off inb ⟨off 0, inb 0⟩ rfl]
  exact rows_le _

/-- The pipeline asks nothing of the tables. -/
theorem ok : Ok m := trivial

/-- The side conditions the body assumes hold at every point. -/
theorem hyps : Hyps m (ok m) := by
  refine Hyps.of ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> intro c t
  all_goals
    first
      | exact inside_of_le 0 (by decide) _ (row_word_le m _ _)
      | exact inside_of_le 1 (by decide) _ (row_word_le m _ _)

end Cert.KernelIdeal.Starts

end
-- ==== Proof.Block.lean ====
/- What one grid point of the kernel writes, said once for all patches: the body is printed unrolled (32 patches loaded,
   one product, 64 stores); here the 64 stores are one family of tiles and the 32 loads one family of slabs, and the
   generated run's list of stores is that family. -/
module

public import proofs.«01_k».proof.Proof.Gen.KernelIdeal.Frame
public import Idealize.ShloMosaic.Lib.Pipeline.ValueKit.Tiles
public import Idealize.ShloMosaic.Lib.Tactic

@[expose] public section

set_option maxRecDepth 16384

noncomputable section

namespace Cert.KernelIdeal.Block

open Idealize.ShloMosaic Idealize.ShloMosaic.TcCoe Idealize.ShloMosaic.Tactic
open Cert.KernelIdeal.Gen

variable {F : FTy → Type} [FloatOps F]

/-- Where patch `j` of grid point `i` finds its words in the start tables, as the kernel computes it: word
    `(2 i + j / 16) · 16 + j % 16`. -/
def wordOff (i : grid0.Coords) (j : Fin 32) : Fin 1 → Nat :=
  ![(Scalar.indexCast (Scalar.addi (Scalar.muli (Scalar.addi (Scalar.muli (BitVec.ofNat 32 (i 0).val) 2#32)
      (BitVec.ofNat 32 (j.val / 16))) 16#32) (BitVec.ofNat 32 (j.val % 16)))).toNat]

/-- That word is number `32 i + j`. -/
theorem wordOff_eq (i : grid0.Coords) (j : Fin 32) : wordOff i j 0 = 32 * (i 0).val + j.val := by
  have hi : (i 0).val < 16 := (i 0).isLt
  have hj := j.isLt
  show (Scalar.indexCast _).toNat = _
  simp only [Scalar.indexCast, Scalar.addi, Scalar.muli, IntOp.addi, IntOp.muli, BitVec.toNat_add, BitVec.toNat_mul,
    BitVec.toNat_ofNat]
  omega

/-- The words lie inside the tables. -/
theorem wordOff_inb (i : grid0.Coords) (j : Fin 32) : ∀ a, wordOff i j a + S1.size a ≤ S512.size a := by
  intro a
  have hi : (i 0).val < 16 := (i 0).isLt
  have hj := j.isLt
  obtain rfl : a = 0 := Subsingleton.elim _ _
  rw [wordOff_eq]
  show 32 * (i 0).val + j.val + 1 ≤ 512
  omega

/-- The first row of patch `j`: its word of the table of row starts. -/
def rowWord (c : Dev nD) (i : grid0.Coords) (xt0 : TbBuf0 (F := F) c tbM0_0) (j : Fin 32) : Elt F .i32 :=
  tbM0_0.view.readAt (Elt F) (Rect.unit (s := S512) (wordOff i j) S1.size (wordOff_inb i j)).toLoadRect xt0
    (Shape.Idx.first (numel1_S1.symm ▸ Nat.one_pos))

/-- The first channel of patch `j`: its word of the table of channel starts. -/
def chanWord (c : Dev nD) (i : grid0.Coords) (xt1 : TbBuf0 (F := F) c tbM0_1) (j : Fin 32) : Elt F .i32 :=
  tbM0_1.view.readAt (Elt F) (Rect.unit (s := S512) (wordOff i j) S1.size (wordOff_inb i j)).toLoadRect xt1
    (Shape.Idx.first (numel1_S1.symm ▸ Nat.one_pos))

/-- Where in the block of `x` the rows of patch `j` begin when its row word is `w`. -/
def loadOff (j : Fin 32) (w : BitVec 32) : Fin 3 → Nat := ![j.val / 16, (Scalar.indexCast w).toNat, 0]

/-- The 512 rows of every patch lie inside the block. -/
def Inside (c : Dev nD) (i : grid0.Coords) (xt0 : TbBuf0 (F := F) c tbM0_0) : Prop :=
  ∀ (j : Fin 32) (a : Fin 3), loadOff j (rowWord c i xt0 j) a + S1x512x128.size a ≤ S2x4096x128.size a

/-- Patch `j`: 512 rows from its row start, rotated so that its channel start comes first, 64 channels kept. -/
def slab (c : Dev nD) (i : grid0.Coords) (arg3 : Memref sig .tc .vmem S2x4096x128 .f32) (harg3 : arg3.IsWhole)
    (x0 : Vec F S2x4096x128 .f32) (xt0 : TbBuf0 (F := F) c tbM0_0) (xt1 : TbBuf0 (F := F) c tbM0_1)
    (hw : Inside c i xt0) (j : Fin 32) : FVec F S512x64 .f32 :=
  extractStridedSlice S512x64 ![0, 0]
    (dynamicRotate 1 (Scalar.subi 128#32 (chanWord c i xt1 j)) none
      (shapeCast S512x128
        (arg3.view.readAt (Elt F) (Rect.unit (s := S2x4096x128) (loadOff j (rowWord c i xt0 j)) S1x512x128.size (hw j)).toLoadRect
          (harg3.unread x0))
        shapeCasts_S1x512x128_S512x128)
      rotates_S512x128_d1)
    slices_S512x128_o0_0_S512x64

/-- The 32 patches side by side fill the left operand. -/
theorem slabs_concat (f : Fin 32 → FVec F S512x64 .f32) :
    Shape.Concatenates ((List.ofFn fun j : Fin 32 => (⟨S512x64, f j⟩ : (s : Shape) × (s.Idx → F .f32))).map (·.1)) S512x2048 1 :=
  concatenates_S512x64_S512x64_S512x64_S512x64_S512x64_S512x64_S512x64_S512x64_S512x64_S512x64_S512x64_S512x64_S512x64_S512x64_S512x64_S512x64_S512x64_S512x64_S512x64_S512x64_S512x64_S512x64_S512x64_S512x64_S512x64_S512x64_S512x64_S512x64_S512x64_S512x64_S512x64_S512x64_S512x2048_d1

/-- The product of the patches side by side with the table. -/
def prod (c : Dev nD) (i : grid0.Coords) (arg3 : Memref sig .tc .vmem S2x4096x128 .f32) (harg3 : arg3.IsWhole)
    (arg4 : Memref sig .tc .vmem S512x1024 .f32) (harg4 : arg4.IsWhole)
    (x0 : Vec F S2x4096x128 .f32) (x1 : Vec F S512x1024 .f32) (xt0 : TbBuf0 (F := F) c tbM0_0) (xt1 : TbBuf0 (F := F) c tbM0_1)
    (hw : Inside c i xt0) : FVec F S2048x1024 .f32 :=
  matmul dot_S512x2048_S512x1024_S2048x1024_0_0_1_1_n_n none
    (concatenate S512x2048 1 (List.ofFn fun j : Fin 32 => (⟨S512x64, slab c i arg3 harg3 x0 xt0 xt1 hw j⟩ : (s : Shape) × (s.Idx → F .f32)))
      (slabs_concat _))
    (shapeCast S512x1024
      (arg4.view.readAt (Elt F) (Rect.unit (s := S512x1024) ![0, 0] S512x1024.size inb_S512x1024_S512x1024_0_0).toLoadRect
        (harg4.unread x1))
      shapeCasts_S512x1024_S512x1024)
    (constant S2048x1024 .f32 0x00000000#32)

/-- Store `k`, counted from the last: its place. Counted from the first it is number `63 - k`, of patch `(63 - k) / 2` and
    part `(63 - k) % 2` (0 real, 1 imaginary). -/
def tileOff (k : Fin 64) : Fin 5 → Nat := ![(63 - k.val) % 2, (63 - k.val) / 32, (63 - k.val) / 2 % 16, 0, 0]

theorem tileOff_inb (k : Fin 64) : ∀ a, tileOff k a + S1x1x1x64x512.size a ≤ S2x2x16x64x512.size a := by
  revert k; decide

theorem rows_slice (k : Fin 64) : Shape.Slices (s := S2048x1024) ![64 * ((63 - k.val) / 2), 0] S64x1024 := by
  revert k; decide

theorem cols_slice (k : Fin 64) : Shape.Slices (s := S64x1024) ![0, 512 * ((63 - k.val) % 2)] S64x512 := by
  revert k; decide

/-- Store `k`: what it writes, cut out of the product `M`. -/
def tile (M : FVec F S2048x1024 .f32) (k : Fin 64) : FVec F S1x1x1x64x512 .f32 :=
  shapeCast S1x1x1x64x512
    (extractStridedSlice S64x512 ![0, 512 * ((63 - k.val) % 2)]
      (extractStridedSlice S64x1024 ![64 * ((63 - k.val) / 2), 0] M (rows_slice k)) (cols_slice k))
    shapeCasts_S64x512_S1x1x1x64x512

/-- The stores of one grid point, last first. -/
def tiles (M : FVec F S2048x1024 .f32) : List (View.Piece (Elt F) S2x2x16x64x512 .f32) :=
  List.ofFn fun k : Fin 64 => (⟨Rect.unit (s := S2x2x16x64x512) (tileOff k) S1x1x1x64x512.size (tileOff_inb k), tile M k⟩ :
    View.Piece (Elt F) S2x2x16x64x512 .f32)

variable (m : (ℓ : Loc nD τ sig) → Buf (Elt F) ℓ)

/-- What the generated run leaves in the output's staging buffer after point `t` is the family of stores. -/
theorem outsAt0_eq (hO : Ok m) (hH : Hyps m hO) (c : Dev nD) (t : Fin (cfgM m hO).N) (hw : Inside c (grid0.coords t) (tbl m 0)) :
    outsAt0 m hO hH c t = VO0_2.read (Elt F) (VO0_2.writes (Elt F) VO0_2.junk
      (tiles (prod c (grid0.coords t) (ms0_0 m hO t) (hs0_0 m hO t) (ms0_1 m hO t) (hs0_1 m hO t)
        (iblk m hO c 0 t) (iblk m hO c 1 t) (tbl m 0) (tbl m 1) hw))) := by
  sl_kernel_rfl

end Cert.KernelIdeal.Block

end
-- ==== Proof.BlockValue.lean ====
/- The value of one grid point's block at an index: a sum of 512 products of an entry of `x` with an entry of the table. -/
module

public import proofs.«01_k».proof.Proof.Block
public import Idealize.ShloMosaic.Lib.Pointwise
public import Idealize.ShloMosaic.Lib.KernelVsHost

@[expose] public section

set_option maxRecDepth 16384

noncomputable section

namespace Cert.KernelIdeal.Block

open Idealize.ShloMosaic Idealize.ShloMosaic.TcCoe Idealize.ShloMosaic.Tactic
open Cert.KernelIdeal.Gen

section AnyFloat

variable {F : FTy → Type} [FloatOps F]

/-- Patch `j` at row `n` and channel `ch`: the entry of the block of `x` its two start words point at. -/
theorem slab_apply (c : Dev nD) (i : grid0.Coords) (arg3 : Memref sig .tc .vmem S2x4096x128 .f32) (harg3 : arg3.IsWhole)
    (x0 : Vec F S2x4096x128 .f32) (xt0 : TbBuf0 (F := F) c tbM0_0) (xt1 : TbBuf0 (F := F) c tbM0_1)
    (hw : Inside c i xt0) (j : Fin 32) (hs : (chanWord c i xt1 j : BitVec 32).toNat ≤ 64) (y : S512x64.Idx) (k : S2x4096x128.Idx)
    (h0 : (k 0).val = j.val / 16) (h1 : (k 1).val = (rowWord c i xt0 j : BitVec 32).toNat + (y 0).val)
    (h2 : (k 2).val = (chanWord c i xt1 j : BitVec 32).toNat + (y 1).val) :
    slab c i arg3 harg3 x0 xt0 xt1 hw j y = x0 k := by
  have hy : (y 1).val < 64 := (y 1).isLt
  unfold slab
  rw [View.readAt_eq_ld, harg3.read_unread]
  refine (extractStridedSlice_apply _ _ _ y (ix2 (⟨(y 0).val, (y 0).isLt⟩ : Fin 512) (⟨(y 1).val, by omega⟩ : Fin 128)) (by
    intro a
    match a with
    | ⟨0, _⟩ => show (y 0).val = 0 + (y 0).val; omega
    | ⟨1, _⟩ => show (y 1).val = 0 + (y 1).val; omega)).trans ?_
  refine (dynamicRotate_apply (1 : Fin 2) _ _ _ _
    (ix2 (⟨(y 0).val, (y 0).isLt⟩ : Fin 512) (⟨(chanWord c i xt1 j : BitVec 32).toNat + (y 1).val, by omega⟩ : Fin 128)) (by
      intro b
      match b with
      | ⟨0, _⟩ => rfl
      | ⟨1, _⟩ =>
        show (chanWord c i xt1 j : BitVec 32).toNat + (y 1).val
          = ((y 1).val + 128 - (Scalar.subi 128#32 (chanWord c i xt1 j : BitVec 32)).toNat % 128) % 128
        have e : (Scalar.subi 128#32 (chanWord c i xt1 j : BitVec 32)).toNat = 128 - (chanWord c i xt1 j : BitVec 32).toNat := by
          simp only [Scalar.subi, IntOp.subi, BitVec.toNat_sub, BitVec.toNat_ofNat]
          omega
        rw [e]
        omega)).trans ?_
  refine (shapeCast_apply _ _ _
    (ix3 (0 : Fin 1) (⟨(y 0).val, (y 0).isLt⟩ : Fin 512) (⟨(chanWord c i xt1 j : BitVec 32).toNat + (y 1).val, by omega⟩ : Fin 128)) (by
      rw [Shape.rowMajor_val_three, Shape.rowMajor_val_two]
      show (0 * 512 + (y 0).val) * 128 + ((chanWord c i xt1 j : BitVec 32).toNat + (y 1).val)
        = (y 0).val * 128 + ((chanWord c i xt1 j : BitVec 32).toNat + (y 1).val)
      omega)).trans ?_
  refine View.ld_unit_apply_of _ _ _ _ _ k ?_
  intro a
  match a with
  | ⟨0, _⟩ => show (k 0).val = j.val / 16 + 0; omega
  | ⟨1, _⟩ => exact h1
  | ⟨2, _⟩ => show (k 2).val = 0 + ((chanWord c i xt1 j : BitVec 32).toNat + (y 1).val); omega

/-- The store of patch `16 b + p` and part `r` is made at the place holding the index `(r, b, p, ch, k)`. -/
theorem tile_holds (y : S2x2x16x64x512.Idx) (k : Fin 64) (hk : k.val = 63 - (2 * (16 * (y 1).val + (y 2).val) + (y 0).val))
    (a : Fin 5) : tileOff k a ≤ (y a).val ∧ (y a).val < tileOff k a + S1x1x1x64x512.size a := by
  have hy0 : (y 0).val < 2 := (y 0).isLt
  have hy1 : (y 1).val < 2 := (y 1).isLt
  have hy2 : (y 2).val < 16 := (y 2).isLt
  have hy3 : (y 3).val < 64 := (y 3).isLt
  have hy4 : (y 4).val < 512 := (y 4).isLt
  match a with
  | ⟨0, _⟩ => show (63 - k.val) % 2 ≤ (y 0).val ∧ (y 0).val < (63 - k.val) % 2 + 1; omega
  | ⟨1, _⟩ => show (63 - k.val) / 32 ≤ (y 1).val ∧ (y 1).val < (63 - k.val) / 32 + 1; omega
  | ⟨2, _⟩ => show (63 - k.val) / 2 % 16 ≤ (y 2).val ∧ (y 2).val < (63 - k.val) / 2 % 16 + 1; omega
  | ⟨3, _⟩ => show 0 ≤ (y 3).val ∧ (y 3).val < 0 + 64; omega
  | ⟨4, _⟩ => show 0 ≤ (y 4).val ∧ (y 4).val < 0 + 512; omega

/-- A block's store list read at an index: the product's row `64 (16 b + p) + ch` and column `512 r + k` at the block's
    index `(r, b, p, ch, k)`. -/
theorem tiles_apply (M : FVec F S2048x1024 .f32) (y : S2x2x16x64x512.Idx) (q : S2048x1024.Idx)
    (h0 : (q 0).val = 64 * (16 * (y 1).val + (y 2).val) + (y 3).val) (h1 : (q 1).val = 512 * (y 0).val + (y 4).val) :
    View.canon (tiles M) y = M q := by
  have hy0 : (y 0).val < 2 := (y 0).isLt
  have hy1 : (y 1).val < 2 := (y 1).isLt
  have hy2 : (y 2).val < 16 := (y 2).isLt
  have hy3 : (y 3).val < 64 := (y 3).isLt
  have hy4 : (y 4).val < 512 := (y 4).isLt
  refine View.canon_ofFn_unit_eq_of_forall (S := S2x2x16x64x512) (Val := Elt F) (e := .f32) tileOff S1x1x1x64x512.size tileOff_inb (tile M) y (M q) ?_ ?_
  · exact ⟨⟨63 - (2 * (16 * (y 1).val + (y 2).val) + (y 0).val), by omega⟩, tile_holds y _ rfl⟩
  · intro k x hx
    have hk := k.isLt
    have e0 : (y 0).val = (63 - k.val) % 2 + (x 0).val := hx 0
    have e1 : (y 1).val = (63 - k.val) / 32 + (x 1).val := hx 1
    have e2 : (y 2).val = (63 - k.val) / 2 % 16 + (x 2).val := hx 2
    have e3 : (y 3).val = 0 + (x 3).val := hx 3
    have e4 : (y 4).val = 0 + (x 4).val := hx 4
    have l0 : (x 0).val < 1 := (x 0).isLt
    have l1 : (x 1).val < 1 := (x 1).isLt
    have l2 : (x 2).val < 1 := (x 2).isLt
    unfold tile
    refine (shapeCast_apply _ _ x (ix2 (⟨(y 3).val, hy3⟩ : Fin 64) (⟨(y 4).val, hy4⟩ : Fin 512)) (by
      rw [Shape.rowMajor_val_five, Shape.rowMajor_val_two]
      show (y 3).val * 512 + (y 4).val = ((((x 0).val * 1 + (x 1).val) * 1 + (x 2).val) * 64 + (x 3).val) * 512 + (x 4).val
      omega)).trans ?_
    refine (extractStridedSlice_apply _ _ _ _ (ix2 (⟨(y 3).val, hy3⟩ : Fin 64) (⟨(q 1).val, (q 1).isLt⟩ : Fin 1024)) (by
      intro a
      match a with
      | ⟨0, _⟩ => show (y 3).val = 0 + (y 3).val; omega
      | ⟨1, _⟩ => show (q 1).val = 512 * ((63 - k.val) % 2) + (y 4).val; omega)).trans ?_
    refine (extractStridedSlice_apply _ _ _ _ q (by
      intro a
      match a with
      | ⟨0, _⟩ => show (q 0).val = 64 * ((63 - k.val) / 2) + (y 3).val; omega
      | ⟨1, _⟩ => show (q 1).val = 0 + (q 1).val; omega))

end AnyFloat

/-- The product at row `64 j + ch` and column `q`: the sum over the 512 rows of patch `j`. -/
theorem prod_apply (c : Dev nD) (i : grid0.Coords) (arg3 : Memref sig .tc .vmem S2x4096x128 .f32) (harg3 : arg3.IsWhole)
    (arg4 : Memref sig .tc .vmem S512x1024 .f32) (harg4 : arg4.IsWhole)
    (x0 : Vec Ideal S2x4096x128 .f32) (x1 : Vec Ideal S512x1024 .f32) (xt0 : TbBuf0 (F := Ideal) c tbM0_0)
    (xt1 : TbBuf0 (F := Ideal) c tbM0_1) (hw : Inside c i xt0) (q : S2048x1024.Idx) :
    prod c i arg3 harg3 arg4 harg4 x0 x1 xt0 xt1 hw q
      = ∑ n : Fin 512, (slab c i arg3 harg3 x0 xt0 xt1 hw ⟨(q 0).val / 64, by have := (q 0).isLt; change _ < 2048 at this; omega⟩
          (ix2 n (⟨(q 0).val % 64, by omega⟩ : Fin 64)) : EReal) * (x1 (ix2 n (⟨(q 1).val, (q 1).isLt⟩ : Fin 1024)) : EReal) := by
  have hcat : ∀ (n : Fin 512) (r : Fin 2048),
      concatenate S512x2048 1 (List.ofFn fun j : Fin 32 => (⟨S512x64, slab c i arg3 harg3 x0 xt0 xt1 hw j⟩ : (s : Shape) × (s.Idx → Ideal .f32)))
          (slabs_concat _) (ix2 n r)
        = slab c i arg3 harg3 x0 xt0 xt1 hw ⟨r.val / 64, by omega⟩ (ix2 n (⟨r.val % 64, by omega⟩ : Fin 64)) := by
    intro n r
    refine concatenate_ofFn_apply (t := S512x2048) (s₁ := S512x64) 1 (slab c i arg3 harg3 x0 xt0 xt1 hw) _ rfl 64 rfl _ _ rfl _ rfl ?_
    intro b hb
    match b with
    | ⟨0, _⟩ => rfl
    | ⟨1, _⟩ => exact absurd rfl hb
  unfold prod
  rw [View.readAt_eq_ld, harg4.read_unread, View.ld_unit_zero (by funext a; fin_cases a <;> rfl)]
  have hcast : shapeCast S512x1024 x1 shapeCasts_S512x1024_S512x1024 = x1 := shapeCast_self _ _
  generalize concatenate S512x2048 1 _ _ = L at hcat
  idx_vars q
  simp only [pointwise, hcat, hcast]
  exact zero_add _

end Cert.KernelIdeal.Block

end
-- ==== Proof.PointValue.lean ====
/- What the kernel's output block holds after one grid point, at an index, in terms of the point's blocks of `x` and of the
   table: for patch `p` of batch entry `b` of the point, channel `ch`, frequency `k` and part `r`, the sum over `n` of
   the block of `x` at the patch's row `n` and channel `ch`, times the table at `(n, 512 r + k)`. -/
module

public import proofs.«01_k».proof.Proof.BlockValue
public import proofs.«01_k».proof.Proof.Starts

@[expose] public section

set_option maxRecDepth 16384

noncomputable section

namespace Cert.KernelIdeal.Block

open Idealize.ShloMosaic Idealize.ShloMosaic.TcCoe Idealize.ShloMosaic.Tactic
open Cert.KernelIdeal.Gen Cert.KernelIdeal.Starts

section AnyFloat

variable {F : FTy → Type} [FloatOps F] (m : (ℓ : Loc nD τ sig) → Buf (Elt F) ℓ)

/-- The patches of every point lie inside their block. -/
theorem inside (c : Dev nD) (i : grid0.Coords) : Inside c i (tbl m 0) := fun j a =>
  inside_of_le _ (by have := j.isLt; omega) _ (row_word_le m _ _) a

/-- The number, among all 512 patches, of patch `j` of the point `i`. -/
def patch (i : grid0.Coords) (j : Fin 32) : Fin 512 :=
  ⟨32 * (i 0).val + j.val, by have h : (i 0).val < 16 := (i 0).isLt; have := j.isLt; omega⟩

/-- The row word of a patch is its row start. -/
theorem rowWord_eq (c : Dev nD) (i : grid0.Coords) (j : Fin 32) :
    (rowWord c i (tbl m 0) j : BitVec 32) = lit2 (patch i j) :=
  row_word m _ _ _ (wordOff_eq i j).symm

/-- The channel word of a patch is its channel start. -/
theorem chanWord_eq (c : Dev nD) (i : grid0.Coords) (j : Fin 32) :
    (chanWord c i (tbl m 1) j : BitVec 32) = lit3 (patch i j) :=
  chan_word m _ _ _ (wordOff_eq i j).symm

end AnyFloat

variable (m : (ℓ : Loc nD τ sig) → Buf (Elt Ideal) ℓ)

/-- The block of `x` that the point reads. -/
def xBlock (c : Dev nD) (t : Fin (cfgM m (ok m)).N) : Vec Ideal S2x4096x128 .f32 := iblk m (ok m) c 0 t

/-- The block of the table that the point reads. -/
def tableBlock (c : Dev nD) (t : Fin (cfgM m (ok m)).N) : Vec Ideal S512x1024 .f32 := iblk m (ok m) c 1 t

/-- The place in a point's block of `x` of row `n` and channel `ch` of patch `j`. -/
def place (i : grid0.Coords) (j : Fin 32) (n : Fin 512) (ch : Fin 64) : S2x4096x128.Idx :=
  ix3 (⟨j.val / 16, by have := j.isLt; omega⟩ : Fin 2)
    (⟨(lit2 (patch i j)).toNat + n.val, by have := rows_le (patch i j); have := n.isLt; omega⟩ : Fin 4096)
    (⟨(lit3 (patch i j)).toNat + ch.val, by have := chans_le (patch i j); have := ch.isLt; omega⟩ : Fin 128)

/-- The block after the point, at an index. -/
theorem outsAt0_apply (c : Dev nD) (t : Fin (cfgM m (ok m)).N) (y : S2x2x16x64x512.Idx) (j : Fin 32)
    (hj : j.val = 16 * (y 1).val + (y 2).val) (ch : Fin 64) (hch : ch.val = (y 3).val) (q : Fin 1024)
    (hq : q.val = 512 * (y 0).val + (y 4).val) :
    outsAt0 m (ok m) (hyps m) c t y
      = ∑ n : Fin 512, (xBlock m c t (place (grid0.coords t) j n ch) : EReal) * (tableBlock m c t (ix2 n q) : EReal) := by
  have hjl := j.isLt
  have hcl := ch.isLt
  rw [outsAt0_eq m (ok m) (hyps m) c t (inside m c _)]
  rw [View.read_writes_junk_eq_canon]
  refine (tiles_apply _ y (ix2 (⟨64 * j.val + ch.val, by omega⟩ : Fin 2048) q) ?_ ?_).trans ?_
  · show 64 * j.val + ch.val = _
    rw [hj, hch]
  · exact hq
  refine (prod_apply c _ _ _ _ _ (xBlock m c t) (tableBlock m c t) _ _ _ _).trans ?_
  refine Finset.sum_congr rfl fun n _ => ?_
  have ej : (⟨(64 * j.val + ch.val) / 64, by omega⟩ : Fin 32) = j := Fin.ext (by show (64 * j.val + ch.val) / 64 = _; omega)
  have ec : (⟨(64 * j.val + ch.val) % 64, by omega⟩ : Fin 64) = ch := Fin.ext (by show (64 * j.val + ch.val) % 64 = _; omega)
  refine congrArg₂ (fun a b : EReal => a * b)
    ((congrArg₂ (fun j' (ch' : Fin 64) => slab c _ _ _ (xBlock m c t) _ _ (inside m c (grid0.coords t)) j' (ix2 n ch')) ej ec).trans
      (slab_apply c _ _ _ _ _ _ _ j ?_ _ (place (grid0.coords t) j n ch) rfl ?_ ?_)) rfl
  · rw [chanWord_eq]; exact chans_le _
  · rw [rowWord_eq]; rfl
  · rw [chanWord_eq]; rfl

end Cert.KernelIdeal.Block

end
-- ==== Proof.Index.lean ====
/- Arithmetic on arrays of indices, as both programs do it on the host: the remainder by a length, and the correction of a
   negative index. -/
module

public import Idealize.ShloMosaic.Lib.Pipeline.ValueKit
public import Idealize.ShloMosaic.Lib.Pointwise

@[expose] public section

noncomputable section

namespace Cert.Index

open Idealize.ShloMosaic

/-- An index with the axis length `d` added if it is negative. -/
def wrap (s : Shape) (h : Shape.BroadcastsInDim ⟨0, ![]⟩ s ![]) (d : BitVec 32) (v : IVec s 32) : IVec s 32 :=
  select (cmpi .slt v (broadcastInDim s ![] h (constantI ⟨0, ![]⟩ 32 0#32)))
    (addi v (broadcastInDim s ![] h (constantI ⟨0, ![]⟩ 32 d))) v

/-- The divisor of a remainder: `d`, or 1 if that is 0. -/
def divisor (d : BitVec 32) : IVec ⟨0, ![]⟩ 32 :=
  select (cmpi .eq (id (constantI ⟨0, ![]⟩ 32 d)) (constantI ⟨0, ![]⟩ 32 0#32)) (constantI ⟨0, ![]⟩ 32 1#32) (id (constantI ⟨0, ![]⟩ 32 d))

/-- The remainder by `d`, of the divisor's sign. -/
def modulo (s : Shape) (h : Shape.BroadcastsInDim ⟨0, ![]⟩ s ![]) (d : BitVec 32) (v : IVec s 32) : IVec s 32 :=
  select
    (andi
      (cmpi .ne (cmpi .slt (Host.remsi v (broadcastInDim s ![] h (divisor d))) (broadcastInDim s ![] h (constantI ⟨0, ![]⟩ 32 0#32)))
        (broadcastInDim s ![] h (cmpi .slt (divisor d) (constantI ⟨0, ![]⟩ 32 0#32))))
      (cmpi .ne (Host.remsi v (broadcastInDim s ![] h (divisor d))) (broadcastInDim s ![] h (constantI ⟨0, ![]⟩ 32 0#32))))
    (addi (Host.remsi v (broadcastInDim s ![] h (divisor d))) (broadcastInDim s ![] h (divisor d)))
    (Host.remsi v (broadcastInDim s ![] h (divisor d)))

/-- A word below 2³¹ is not negative. -/
theorem not_slt_zero (v : BitVec 32) (hv : v.toNat < 2 ^ 31) : v.slt 0#32 = false := by
  rw [BitVec.slt_eq_decide, decide_eq_false_iff_not, BitVec.toInt_eq_toNat_of_lt (by omega)]
  show ¬ ((v.toNat : Int) < 0)
  omega

/-- Nothing is added to an index that is not negative. -/
theorem wrap_apply (s : Shape) (h : Shape.BroadcastsInDim ⟨0, ![]⟩ s ![]) (d : BitVec 32) (v : IVec s 32) (i : s.Idx)
    (hv : (v i).toNat < 2 ^ 31) : wrap s h d v i = v i := by
  show Scalar.select (BitVec.ofBool ((v i).slt 0#32)) _ _ = v i
  rw [not_slt_zero _ hv]
  rfl

/-- The signed remainder of two words that are not negative is the unsigned one. -/
theorem remsi_nonneg (v d : BitVec 32) (h0 : d ≠ 0#32) (hd : d.toNat < 2 ^ 31) (hv : v.toNat < 2 ^ 31) :
    IntOp.remsi .host v d = v % d := by
  have h1 : v.msb = false := by rw [BitVec.msb_eq_decide]; simp; omega
  have h2 : d.msb = false := by rw [BitVec.msb_eq_decide]; simp; omega
  have hc : ¬ IntOp.SDivCorner v d := by
    rintro (h | ⟨h, -⟩)
    · exact h0 h
    · rw [h] at h1; exact absurd h1 (by decide)
  unfold IntOp.remsi
  rw [if_neg hc, BitVec.srem_eq, h1, h2]

/-- The remainder of an index that is not negative, by a positive length. -/
theorem modulo_apply (s : Shape) (h : Shape.BroadcastsInDim ⟨0, ![]⟩ s ![]) (d : BitVec 32) (v : IVec s 32) (i : s.Idx)
    (h0 : (d == 0#32) = false) (hd : d.toNat < 2 ^ 31) (hv : (v i).toNat < 2 ^ 31) : modulo s h d v i = v i % d := by
  have hne : d ≠ 0#32 := fun e => by rw [e] at h0; exact absurd h0 (by decide)
  have e : Scalar.select (IntOp.cmpi .eq d 0#32) 1#32 d = d := by
    show Scalar.select (BitVec.ofBool (d == 0#32)) 1#32 d = d
    rw [h0]; rfl
  have hr : Host.remsi v (broadcastInDim s ![] h (divisor d)) i = v i % d := by
    show IntOp.remsi .host (v i) (Scalar.select (IntOp.cmpi .eq d 0#32) 1#32 d) = _
    rw [e]
    exact remsi_nonneg _ _ hne hd hv
  have hlt : (v i % d).toNat < 2 ^ 31 := by
    rw [BitVec.toNat_umod]
    exact Nat.lt_of_le_of_lt (Nat.mod_le _ _) hv
  show Scalar.select
    (IntOp.andi (BitVec.ofBool (BitVec.ofBool ((Host.remsi v (broadcastInDim s ![] h (divisor d)) i).slt 0#32)
        != BitVec.ofBool ((Scalar.select (IntOp.cmpi .eq d 0#32) 1#32 d).slt 0#32))) _) _
    (Host.remsi v (broadcastInDim s ![] h (divisor d)) i) = _
  rw [hr, e, not_slt_zero _ hlt, not_slt_zero _ hd]
  show Scalar.select (0#1 &&& _) _ _ = _
  rw [BitVec.zero_and]
  rfl

/-- An index below the axis length is its own remainder. -/
theorem modulo_small (s : Shape) (h : Shape.BroadcastsInDim ⟨0, ![]⟩ s ![]) (d : BitVec 32) (v : IVec s 32) (i : s.Idx)
    (h0 : (d == 0#32) = false) (hd : d.toNat < 2 ^ 31) (hv : (v i).toNat < d.toNat) : modulo s h d v i = v i := by
  rw [modulo_apply s h d v i h0 hd (by omega)]
  exact BitVec.eq_of_toNat_eq ((BitVec.toNat_umod (x := v i) (y := d)).trans (Nat.mod_eq_of_lt hv))

end Cert.Index

end
-- ==== Proof.Roots.lean ====
/- The matrix of the transform. Both programs keep the 512 powers of the root of unity, and read the entry for sample `n` and
   frequency `k` at the remainder of `n k` by 512. -/
module

public import proofs.«01_k».proof.Proof.Gen.KernelIdeal.Frame
public import proofs.«01_k».proof.Proof.Index

@[expose] public section

set_option maxRecDepth 16384

noncomputable section

namespace Cert.KernelIdeal.Roots

open Cert.KernelIdeal Cert.KernelIdeal.Gen Cert.Index
open Idealize.ShloMosaic Idealize.ShloMosaic.TcCoe Idealize.ShloMosaic.Tactic

/-- The power of the root for sample `n` and frequency `k`. -/
def turn (n k : Fin 512) : Fin 512 := ⟨n.val * k.val % 512, Nat.mod_lt _ (by decide)⟩

/-- The products of the sample and frequency numbers. -/
def products : IVec S512x512 32 :=
  muli
    (broadcastInDim S512x512 ![0, 1] bcast_S512x1_S512x512_0_1
      (broadcastInDim S512x1 ![0] bcast_S512_S512x1_0 (iotaInDim S512 32 0)))
    (broadcastInDim S512x512 ![0, 1] bcast_S1x512_S512x512_0_1
      (broadcastInDim S1x512 ![1] bcast_S512_S1x512_1 (iotaInDim S512 32 0)))

/-- Their remainders. -/
def remainders : IVec S512x512 32 := modulo S512x512 bcast_S_S512x512 512#32 products

/-- The array of the powers' numbers, as the gather takes it. -/
def turns (v : IVec S512x512 32) : IVec S512x512x1 32 :=
  broadcastInDim S512x512x1 ![0, 1] bcast_S512x512_S512x512x1_0_1 (wrap S512x512 bcast_S_S512x512 512#32 v)

/-- 512 words as an array of numbers. -/
def numbers (w : Fin 512 → BitVec 32) : FVec Ideal S512 .f32 :=
  fun i => FloatOps.ofBits (F := Ideal) .f32 (w (S512.rowMajor i))

/-- The matrix of one part of the powers. -/
def matrix (w : Fin 512 → BitVec 32) : FVec Ideal S512x512 .f32 :=
  Host.gather gather_S512_S512x512x1_S512x512_n_0_n_n_0_2_1 (numbers w) (turns remainders)

theorem products_apply (n k : Fin 512) : products (ix2 n k) = BitVec.ofNat 32 n.val * BitVec.ofNat 32 k.val := by
  have e1 : broadcastInDim S512x512 ![0, 1] bcast_S512x1_S512x512_0_1
      (broadcastInDim S512x1 ![0] bcast_S512_S512x1_0 (iotaInDim S512 32 0)) (ix2 n k) = BitVec.ofNat 32 n.val := by
    refine (broadcastInDim_apply _ _ _ _ (ix2 n (0 : Fin 1)) fun a => by match a with | 0 | 1 => rfl).trans ?_
    exact broadcastInDim_apply _ _ _ _ (ix1 n) fun a => by match a with | 0 => rfl
  have e2 : broadcastInDim S512x512 ![0, 1] bcast_S1x512_S512x512_0_1
      (broadcastInDim S1x512 ![1] bcast_S512_S1x512_1 (iotaInDim S512 32 0)) (ix2 n k) = BitVec.ofNat 32 k.val := by
    refine (broadcastInDim_apply _ _ _ _ (ix2 (0 : Fin 1) k) fun a => by match a with | 0 | 1 => rfl).trans ?_
    exact broadcastInDim_apply _ _ _ _ (ix1 k) fun a => by match a with | 0 => rfl
  exact congrArg₂ (fun a b : BitVec 32 => a * b) e1 e2

/-- The products do not wrap around. -/
theorem products_toNat (n k : Fin 512) : (products (ix2 n k)).toNat = n.val * k.val := by
  have h : n.val * k.val ≤ 511 * 511 := Nat.mul_le_mul (by omega) (by omega)
  rw [products_apply, BitVec.toNat_mul, BitVec.toNat_ofNat, BitVec.toNat_ofNat, Nat.mod_eq_of_lt (a := n.val) (by omega),
    Nat.mod_eq_of_lt (a := k.val) (by omega), Nat.mod_eq_of_lt (by omega)]

theorem remainders_toNat (n k : Fin 512) : (remainders (ix2 n k)).toNat = (turn n k).val := by
  have h : n.val * k.val ≤ 511 * 511 := Nat.mul_le_mul (by omega) (by omega)
  unfold remainders
  rw [modulo_apply _ _ _ _ _ (by decide) (by decide) (by rw [products_toNat]; omega), BitVec.toNat_umod, products_toNat]
  rfl

theorem turns_toNat (n k : Fin 512) : (turns remainders (ix3 n k (0 : Fin 1))).toNat = (turn n k).val := by
  have h : (turn n k).val < 512 := (turn n k).isLt
  unfold turns
  refine (congrArg BitVec.toNat (broadcastInDim_apply _ _ _ _ (ix2 n k) fun a => by match a with | 0 | 1 => rfl)).trans ?_
  rw [wrap_apply _ _ _ _ _ (by rw [remainders_toNat]; omega), remainders_toNat]

/-- The entry of the matrix for sample `n` and frequency `k`. -/
theorem matrix_apply (w : Fin 512 → BitVec 32) (n k : Fin 512) :
    matrix w (ix2 n k) = FloatOps.ofBits (F := Ideal) .f32 (w (turn n k)) := by
  have h : (turn n k).val < 512 := (turn n k).isLt
  unfold matrix
  refine (ValueIdx.gather_take_apply (R := 512) (C := 512) (by decide) _ (numbers w) (turns remainders) (ix2 n k)).trans ?_
  have e : (turns remainders (ValueIdx.takeIdx (R := 512) (C := 512) (ix2 n k))).toNat = (turn n k).val := by
    have : ValueIdx.takeIdx (R := 512) (C := 512) (ix2 n k) = ix3 n k (0 : Fin 1) := by
      funext a
      match a with
      | ⟨0, _⟩ => rfl
      | ⟨1, _⟩ => rfl
      | ⟨2, _⟩ => rfl
    rw [this]
    exact turns_toNat n k
  refine congrArg (fun i => FloatOps.ofBits (F := Ideal) .f32 (w i)) (Fin.ext ?_)
  refine (Shape.rowMajor_val_one _).trans ?_
  show min (turns remainders (ValueIdx.takeIdx (R := 512) (C := 512) (ix2 n k))).toInt.toNat (512 - 1) = _
  rw [BitVec.toInt_eq_toNat_of_lt (by omega), Int.toNat_natCast, e]
  omega

end Cert.KernelIdeal.Roots

end
-- ==== Proof.Table.lean ====
/- The table that the kernel starts with: the operations before the pipeline leave in it the cosines' matrix and, beside it,
   the negated sines' matrix. They are taken in four steps. -/
module

public import proofs.«01_k».proof.Proof.Roots

@[expose] public section

set_option maxRecDepth 16384

noncomputable section

namespace Cert.KernelIdeal.Roots

open Cert.KernelIdeal Cert.KernelIdeal.Gen Cert.Index
open Idealize.ShloMosaic Idealize.ShloMosaic.TcCoe Idealize.ShloMosaic.Tactic

/-- The two matrices side by side. -/
def table : FVec Ideal S512x1024 .f32 :=
  concatenate S512x1024 1 [⟨S512x512, matrix lit0⟩, ⟨S512x512, matrix lit1⟩]
    concatenates_S512x512_S512x512_S512x1024_d1

/-- The table at row `n` and column `512 r + k`. -/
theorem table_apply (n k : Fin 512) (r : Fin 2) (q : Fin 1024) (hq : q.val = 512 * r.val + k.val) :
    table (ix2 n q) = FloatOps.ofBits (F := Ideal) .f32 ((![lit0, lit1] : Fin 2 → Fin 512 → BitVec 32) r (turn n k)) := by
  have hi : ∀ z : Fin 2, z.cast rfl ≠ (1 : Fin S512x1024.rank) →
      ((ix2 n k : S512x512.Idx) z).val = ((ix2 n q : S512x1024.Idx) (z.cast rfl)).val := by
    intro z hz
    match z with
    | 0 => rfl
    | 1 => exact absurd rfl hz
  unfold table
  match r with
  | 0 =>
    exact (concatenate_apply_piece (t := S512x1024) _ _ _ _ 0 (by simp) S512x512 (matrix lit0) rfl rfl 0 rfl (ix2 n k) hi
      (by show 0 + k.val = q.val; rw [hq]; show 0 + k.val = 512 * 0 + k.val; omega)).trans (matrix_apply lit0 n k)
  | 1 =>
    exact (concatenate_apply_piece (t := S512x1024) _ _ _ _ 1 (by simp) S512x512 (matrix lit1) rfl rfl 512 rfl (ix2 n k) hi
      (by show 512 + k.val = q.val; rw [hq]; show 512 + k.val = 512 * 1 + k.val; omega)).trans (matrix_apply lit1 n k)

variable (V : Valuation τ sig (Elt Ideal))

/-- First come the words of the powers, … -/
theorem first_cos : StableHlo.after hostOps0 V (Proc.devRef .tc main_cst) = numbers lit0 := by
  simp only [hostOps0]
  after_results_simp
  rfl

theorem first_sin : StableHlo.after hostOps0 V (Proc.devRef .tc main_cst_0) = numbers lit1 := by
  simp only [hostOps0]
  after_results_simp
  rfl

/-- … the products of the indices … -/
theorem first_products : StableHlo.after hostOps0 V (Proc.devRef .tc main_v5) = products := by
  simp only [hostOps0]
  after_results_simp
  rfl

/-- … and the length to reduce them by. -/
theorem first_length : StableHlo.after hostOps0 V (Proc.devRef .tc main_c_2) = constantI S_ 32 512#32 := by
  simp only [hostOps0]
  after_results_simp
  done

/-- The second step reduces the products, … -/
theorem second_remainders (h : V (Proc.devRef .tc main_c_2) = constantI S_ 32 512#32) :
    StableHlo.after hostOps0_1 V (Proc.devRef .tc main_v6)
      = modulo S512x512 bcast_S_S512x512 512#32 (V (Proc.devRef .tc main_v5) : IVec S512x512 32) := by
  simp only [hostOps0_1, StableHlo.TRef.binary, StableHlo.TRef.nullary, StableHlo.TRef.ternary, StableHlo.TRef.unary,
    StableHlo.TRef.toBuf, StableHlo.TRef.ofBuf, cast_eq]
  after_results_simp
  rw [h]
  rfl

/-- … and leaves the words. -/
theorem second_cos : StableHlo.after hostOps0_1 V (Proc.devRef .tc main_cst) = V (Proc.devRef .tc main_cst) := by
  simp only [hostOps0_1, StableHlo.TRef.binary, StableHlo.TRef.nullary, StableHlo.TRef.ternary, StableHlo.TRef.unary,
    StableHlo.TRef.toBuf, StableHlo.TRef.ofBuf, cast_eq]
  after_results_simp
  done

theorem second_sin : StableHlo.after hostOps0_1 V (Proc.devRef .tc main_cst_0) = V (Proc.devRef .tc main_cst_0) := by
  simp only [hostOps0_1, StableHlo.TRef.binary, StableHlo.TRef.nullary, StableHlo.TRef.ternary, StableHlo.TRef.unary,
    StableHlo.TRef.toBuf, StableHlo.TRef.ofBuf, cast_eq]
  after_results_simp
  done

/-- The third step gathers the cosines … -/
theorem third_cos : StableHlo.after (hostOps0_2.take 18) V (Proc.devRef .tc main_v13)
    = Host.gather gather_S512_S512x512x1_S512x512_n_0_n_n_0_2_1 (V (Proc.devRef .tc main_cst) : FVec Ideal S512 .f32)
      (turns (V (Proc.devRef .tc main_v6) : IVec S512x512 32)) := by
  simp only [hostOps0_2, List.take_succ_cons, List.take_zero]
  after_results_simp
  rfl

/-- … and the negated sines. -/
theorem third_sin : StableHlo.after (hostOps0_2.take 18) V (Proc.devRef .tc main_v20)
    = Host.gather gather_S512_S512x512x1_S512x512_n_0_n_n_0_2_1 (V (Proc.devRef .tc main_cst_0) : FVec Ideal S512 .f32)
      (turns (V (Proc.devRef .tc main_v6) : IVec S512x512 32)) := by
  simp only [hostOps0_2, List.take_succ_cons, List.take_zero]
  after_results_simp
  rfl

/-- The last step puts the two side by side. -/
theorem fourth : StableHlo.after (hostOps0_2.drop 18) V (Proc.devRef .tc main_v21)
    = concatenate S512x1024 1 [⟨S512x512, (V (Proc.devRef .tc main_v13) : FVec Ideal S512x512 .f32)⟩,
        ⟨S512x512, (V (Proc.devRef .tc main_v20) : FVec Ideal S512x512 .f32)⟩]
      concatenates_S512x512_S512x512_S512x1024_d1 := by
  simp only [hostOps0_2, List.drop_succ_cons, List.drop_zero]
  after_results_simp
  done

/-- Operations in two parts act one part after the other. -/
theorem after_parts (a b : List (HloOp τ sig (Elt Ideal))) (V : Valuation τ sig (Elt Ideal)) :
    StableHlo.after (a ++ b) V = StableHlo.after b (StableHlo.after a V) := by
  induction a generalizing V with
  | nil => rfl
  | cons o a ih => exact ih _

/-- **The four steps leave the table.** -/
theorem after_eq : StableHlo.after (List.flatten [hostOps0, hostOps0_1, hostOps0_2]) V (Proc.devRef .tc main_v21) = table := by
  rw [List.flatten_cons, List.flatten_cons, List.flatten_cons, List.flatten_nil, List.append_nil, after_parts, after_parts,
    ← List.take_append_drop 18 hostOps0_2, after_parts, fourth, third_cos, third_sin, second_remainders _ (first_length V),
    second_cos, second_sin, first_cos, first_sin, first_products]
  rfl

end Cert.KernelIdeal.Roots

end
-- ==== Proof.ArrayValue.lean ====
/- What the kernel's output array holds after all grid points: every entry is the sum over the 512 rows of its patch of
   an entry of `x` times an entry of the transform's matrix. The blocks that the points read and write are placed in the
   arrays here. -/
module

public import proofs.«01_k».proof.Proof.PointValue
public import proofs.«01_k».proof.Proof.Table
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Cert.KernelIdeal.Gen Cert.KernelIdeal.Starts Cert.KernelIdeal.Block

/-- The number of patch `p` of batch entry `b` in the start tables. -/
def number (b : Fin 32) (p : Fin 16) : Fin 512 := ⟨16 * b.val + p.val, by have := b.isLt; have := p.isLt; omega⟩

/-- The place in `x` of row `n` and channel `ch` of patch `p` of batch entry `b`. -/
def source (b : Fin 32) (p : Fin 16) (n : Fin 512) (ch : Fin 64) : S32x4096x128.Idx :=
  ix3 b (⟨(lit2 (number b p)).toNat + n.val, by have := rows_le (number b p); have := n.isLt; omega⟩ : Fin 4096)
    (⟨(lit3 (number b p)).toNat + ch.val, by have := chans_le (number b p); have := ch.isLt; omega⟩ : Fin 128)

/-- The transform of patch `p` of batch entry `b` and channel `ch` at frequency `k`: the real part for `r = 0`, the
    imaginary part for `r = 1`. -/
def spectrum (x : Vec Ideal S32x4096x128 .f32) (b : Fin 32) (p : Fin 16) (ch : Fin 64) (k : Fin 512) (r : Fin 2) : EReal :=
  ∑ n : Fin 512, (x (source b p n ch) : EReal)
    * (FloatOps.ofBits .f32 ((![lit0, lit1] : Fin 2 → Fin 512 → BitVec 32) r (Roots.turn n k)) : Ideal .f32)

/-- The grid has one axis. -/
theorem coord_eq : ∀ t : Fin grid0.N, (grid0.coords t 0).val = t.val := by decide +kernel

/-- Point `t` reads block `t` of `x`, … -/
theorem index_x : ∀ t : Fin grid0.N, cc0_transform_0 (grid0.coords t) = ![t.val, 0, 0] := by decide +kernel

/-- … the whole of the table, … -/
theorem index_table : ∀ t : Fin grid0.N, cc0_transform_1 (grid0.coords t) = ![0, 0] := by decide +kernel

/-- … and writes block `t` of the output's batch axis. -/
theorem index_out : ∀ t : Fin grid0.N, cc0_transform_2 (grid0.coords t) = ![0, t.val, 0, 0, 0] := by decide +kernel

variable (m : (ℓ : Loc nD τ sig) → Buf (Elt Ideal) ℓ)

/-- The blocks written cover the output. -/
theorem covers : ((cfgM m (ok m)).win 2).Covers := of_decide_eq_true (by sl_kernel_rfl)

/-- The table when the kernel starts. -/
theorem table_eq (c : Dev nD) : V m c main_v21 = Roots.table := Roots.after_eq fun b => m (c, b)

/-- The point's block of the table is the table. -/
theorem tableBlock_apply (c : Dev nD) (t : Fin (cfgM m (ok m)).N) (i : S512x1024.Idx) :
    tableBlock m c t i = Roots.table i := by
  have e : (((cfgM m (ok m)).win 1).blk t).view.emb i = i := by
    funext a
    refine Fin.ext ?_
    blk_simp
    have h : ((cfgM m (ok m)).win 1).index t a = (![0, 0] : Fin 2 → ℕ) a := congrFun (index_table t) a
    rw [h]
    match a with
    | ⟨0, _⟩ => exact Nat.zero_add _
    | ⟨1, _⟩ => exact Nat.zero_add _
  refine (congrFun (table_eq m c) _).trans ?_
  exact congrArg Roots.table e

/-- The point's block of `x` is two batch entries of `x`. -/
theorem xBlock_apply (c : Dev nD) (t : Fin (cfgM m (ok m)).N) (i : S2x4096x128.Idx) (k : S32x4096x128.Idx)
    (h0 : (k 0).val = 2 * t.val + (i 0).val) (h1 : (k 1).val = (i 1).val) (h2 : (k 2).val = (i 2).val) :
    xBlock m c t i = m ((c.tc : Thread nD τ).loc main_arg0) k := by
  have e : (((cfgM m (ok m)).win 0).blk t).view.emb i = k := by
    funext a
    refine Fin.ext ?_
    blk_simp
    have h : ((cfgM m (ok m)).win 0).index t a = (![t.val, 0, 0] : Fin 3 → ℕ) a := congrFun (index_x t) a
    rw [h]
    match a with
    | ⟨0, _⟩ => show t.val * 2 + (i 0).val = (k 0).val; omega
    | ⟨1, _⟩ => show 0 * 4096 + (i 1).val = (k 1).val; omega
    | ⟨2, _⟩ => show 0 * 128 + (i 2).val = (k 2).val; omega
  refine (congrFun (V_main_arg0 m c) _).trans ?_
  exact congrArg (m ((c.tc : Thread nD τ).loc main_arg0)) e

/-- What the output array ends holding. -/
def out (x : Vec Ideal S32x4096x128 .f32) : Vec Ideal S2x32x16x64x512 .f32 := fun z =>
  spectrum x ⟨(z 1).val, (z 1).isLt⟩ ⟨(z 2).val, (z 2).isLt⟩ ⟨(z 3).val, (z 3).isLt⟩ ⟨(z 4).val, (z 4).isLt⟩
    ⟨(z 0).val, (z 0).isLt⟩

/-- The block after point `t`, at an index, is the output's value at that index's place in the array. -/
theorem block_value (c : Dev nD) (t : Fin (cfgM m (ok m)).N) (y : S2x2x16x64x512.Idx) (z : S2x32x16x64x512.Idx)
    (e : ∀ a : Fin 5, (z a).val = (![0, t.val, 0, 0, 0] : Fin 5 → ℕ) a * S2x2x16x64x512.size a + (y a).val) :
    outsAt0 m (ok m) (hyps m) c t y = out (m ((c.tc : Thread nD τ).loc main_arg0)) z := by
  have hy0 : (y 0).val < 2 := (y 0).isLt
  have hy1 : (y 1).val < 2 := (y 1).isLt
  have hy2 : (y 2).val < 16 := (y 2).isLt
  have hy4 : (y 4).val < 512 := (y 4).isLt
  have h0 : (z 0).val = 0 * 2 + (y 0).val := e 0
  have h1 : (z 1).val = t.val * 2 + (y 1).val := e 1
  have h2 : (z 2).val = 0 * 16 + (y 2).val := e 2
  have h3 : (z 3).val = 0 * 64 + (y 3).val := e 3
  have h4 : (z 4).val = 0 * 512 + (y 4).val := e 4
  refine (outsAt0_apply m c t y ⟨16 * (y 1).val + (y 2).val, by omega⟩ rfl ⟨(y 3).val, (y 3).isLt⟩ rfl
    ⟨512 * (y 0).val + (y 4).val, by omega⟩ rfl).trans ?_
  unfold out spectrum
  refine Finset.sum_congr rfl fun n _ => ?_
  have hp : patch (grid0.coords t) ⟨16 * (y 1).val + (y 2).val, by omega⟩
      = number ⟨(z 1).val, (z 1).isLt⟩ ⟨(z 2).val, (z 2).isLt⟩ := by
    refine Fin.ext ?_
    show 32 * (grid0.coords t 0).val + (16 * (y 1).val + (y 2).val) = 16 * (z 1).val + (z 2).val
    rw [coord_eq t, h1, h2]
    omega
  refine congrArg₂ (fun a b : EReal => a * b) (xBlock_apply m c t _ _ ?_ ?_ ?_) ((tableBlock_apply m c t _).trans ?_)
  · show (z 1).val = 2 * t.val + (16 * (y 1).val + (y 2).val) / 16
    omega
  · show (lit2 (number _ _)).toNat + n.val = (lit2 (patch _ _)).toNat + n.val
    rw [hp]
  · show (lit3 (number _ _)).toNat + (z 3).val = (lit3 (patch _ _)).toNat + (y 3).val
    rw [hp, h3]
    omega
  · refine Roots.table_apply n ⟨(z 4).val, (z 4).isLt⟩ ⟨(z 0).val, (z 0).isLt⟩ _ ?_
    show 512 * (y 0).val + (y 4).val = 512 * (z 0).val + (z 4).val
    omega

/-- The output array after the run. -/
theorem array_value (c : Dev nD) :
    (dats m (ok m) (hyps m) 0 c).arrAt 2 (cfgM m (ok m)).N = out (m ((c.tc : Thread nD τ).loc main_arg0)) := by
  refine (dats m (ok m) (hyps m) 0 c).arrAt_eq_of_covers 2 _ (covers m) fun t hf y => ?_
  blk_simp
  rw [after0_2]
  refine block_value m c t y _ fun a => ?_
  blk_simp
  have h : ((cfgM m (ok m)).win 2).index t a = (![0, t.val, 0, 0, 0] : Fin 5 → ℕ) a := congrFun (index_out t) a
  rw [h]
  rfl

end Cert.KernelIdeal.Value

end
-- ==== Proof.KernelRun.lean ====
/- What a run of the kernel's program leaves in its two results: the first is the pipeline's output with its axes
   reordered, the second is made of constants alone. -/
module

public import proofs.«01_k».proof.Proof.ArrayValue

@[expose] public section

set_option maxRecDepth 16384

noncomputable section

namespace Cert.KernelIdeal.Value

open Cert.KernelIdeal Cert.KernelIdeal.Gen Cert.KernelIdeal.Starts
open Idealize.ShloMosaic Idealize.ShloMosaic.TcCoe Idealize.ShloMosaic.Tactic

/-- The first result: the spectra with the axes in the order batch, patch, frequency, channel, part. -/
def result0 (x : Vec Ideal S32x4096x128 .f32) : Vec Ideal S32x16x512x64x2 .f32 :=
  transpose S32x16x512x64x2 [1, 2, 4, 3, 0] (out x) transposes_S2x32x16x64x512_S32x16x512x64x2_1_2_4_3_0

/-- The second result: the times of the samples, the same for every batch. -/
def result1 : Vec Ideal S32x4096 .f32 :=
  broadcastInDim S32x4096 ![0, 1] bcast_S1x4096_S32x4096_0_1
    (broadcastInDim S1x4096 ![1] bcast_S4096_S1x4096_1
      (mulf (F := Ideal) (sitofp .f32 (iotaInDim S4096 32 0))
        (broadcastInDim S4096 ![] bcast_S_S4096 (constant S_ .f32 0x3C23D70A#32))))

/-- The first result at an index. -/
theorem result0_apply (x : Vec Ideal S32x4096x128 .f32) (b : Fin 32) (p : Fin 16) (k : Fin 512) (ch : Fin 64) (r : Fin 2) :
    result0 x (ix5 b p k ch r) = spectrum x b p ch k r := by
  unfold result0
  exact transpose_apply _ _ _ _ (ix5 r b p ch k) fun a => by match a with | 0 | 1 | 2 | 3 | 4 => rfl

variable (m : (ℓ : Loc nD τ sig) → Buf (Elt Ideal) ℓ) (ρ : Dev nD → PrngReg)

/-- No two windows of the pipeline stage the same array. -/
theorem arrays_inj : Function.Injective (Pipeline.arrRef spec0) := by decide

/-- The memory as the pipeline leaves it. -/
def left (c : Dev nD) : Valuation τ sig (Elt Ideal) :=
  Pipeline.withArrays (Pipeline.pin pcfgs (fun _ => adm m (ok m)) 0).spec c (V0 m c)
    fun w => (dats m (ok m) (hyps m) 0 c).arrAt w (Pipeline.pin pcfgs (fun _ => adm m (ok m)) 0).N

/-- The pipeline leaves the spectra in its output array. -/
theorem left_out (c : Dev nD) :
    left m c (Proc.devRef .tc main_v22) = out (m ((c.tc : Thread nD τ).loc main_arg0)) := by
  unfold left
  exact (Pipeline.withArrays_arr _ arrays_inj c _ _ 2).trans (array_value m c)

/-- The operations after the pipeline leave its reordered output in the first result, … -/
theorem tail0 (V : Valuation τ sig (Elt Ideal)) :
    StableHlo.after hostOps1 V (Proc.devRef .tc main_v23)
      = transpose S32x16x512x64x2 [1, 2, 4, 3, 0]
        (V (Proc.devRef .tc main_v22) : Vec Ideal S2x32x16x64x512 .f32)
        transposes_S2x32x16x64x512_S32x16x512x64x2_1_2_4_3_0 := by
  simp only [hostOps1]
  after_results_simp
  done

/-- … and the times in the second. -/
theorem tail1 (V : Valuation τ sig (Elt Ideal)) : StableHlo.after hostOps1 V (Proc.devRef .tc main_v28) = result1 := by
  simp only [hostOps1]
  after_results_simp
  rfl

/-- The first result is not an array of the pipeline, … -/
theorem rest0 : main_v23 ∈ Pipeline.restRefs sig spec0 := by decide

/-- … and nor is the second. -/
theorem rest1 : main_v28 ∈ Pipeline.restRefs sig spec0 := by decide

/-- **The kernel's run**: both results, and the argument unchanged. -/
theorem run : θ_run defs (onTc (τ := τ) (main (F := Ideal))) ⟨m, fun _ => 0, ρ⟩ fun r => ∀ c : Dev nD,
    r.2.mem ((c.tc : Thread nD τ).loc main_v23) = result0 (m ((c.tc : Thread nD τ).loc main_arg0))
    ∧ r.2.mem ((c.tc : Thread nD τ).loc main_v28) = result1
    ∧ r.2.mem ((c.tc : Thread nD τ).loc main_arg0) = m ((c.tc : Thread nD τ).loc main_arg0) :=
  (θ_run defs _ _).mono (fun _ h c =>
    ⟨(h.rest_eq c main_v23 rest0).trans ((tail0 (left m c)).trans (congrArg
        (fun y => transpose S32x16x512x64x2 [1, 2, 4, 3, 0] y transposes_S2x32x16x64x512_S32x16x512x64x2_1_2_4_3_0)
        (left_out m c))),
      (h.rest_eq c main_v28 rest1).trans (tail1 (left m c)),
      (h.in_eq c 0 rfl).trans (A_eq m (ok m) (hyps m) c 0)⟩) (run_main m ρ (ok m) (hyps m))

end Cert.KernelIdeal.Value

end
-- ==== Proof.RefPatches.lean ====
/- The reference's patches. It cuts all patches out of `x` by one gather, whose indices are the patch starts plus the row
   and channel numbers, taken modulo the axis lengths, and made nonnegative. No index is out of range to begin with, so
   that neither the remainder nor the correction changes it, and the gather reads the entries that the kernel reads. -/
module

public import proofs.«01_k».proof.Proof.Gen.ReferenceIdeal.Run
public import proofs.«01_k».proof.Proof.ArrayValue

@[expose] public section

set_option maxRecDepth 16384

noncomputable section

namespace Cert.ReferenceIdeal.Patches

open Cert.ReferenceIdeal Cert.ReferenceIdeal.Gen Idealize.ShloMosaic Idealize.ShloMosaic.TcCoe
open Cert.KernelIdeal.Value (number source)
open Cert.Index (wrap modulo wrap_apply modulo_small)

/-- The reference draws the row starts that the kernel has in its third table. -/
theorem rows_eq (i : Fin 512) : lit0 i = Cert.KernelIdeal.lit2 i := by
  revert i; decide +kernel

/-- The reference draws the channel starts that the kernel has in its fourth table. -/
theorem chans_eq (i : Fin 512) : lit1 i = Cert.KernelIdeal.lit3 i := by
  revert i; decide +kernel

/-- The rows of each patch, not yet reduced. -/
def rowSums : IVec S32x16x512 32 :=
  addi
    (broadcastInDim S32x16x512 ![0, 1, 2] bcast_S32x16x1_S32x16x512_0_1_2
      (broadcastInDim S32x16x1 ![0, 1] bcast_S32x16_S32x16x1_0_1 (fun i => lit0 (S32x16.rowMajor i))))
    (broadcastInDim S32x16x512 ![0, 1, 2] bcast_S1x1x512_S32x16x512_0_1_2
      (broadcastInDim S1x1x512 ![2] bcast_S512_S1x1x512_2 (iotaInDim S512 32 0)))

/-- The channels of each patch, not yet reduced. -/
def chanSums : IVec S32x16x64 32 :=
  addi
    (broadcastInDim S32x16x64 ![0, 1, 2] bcast_S32x16x1_S32x16x64_0_1_2
      (broadcastInDim S32x16x1 ![0, 1] bcast_S32x16_S32x16x1_0_1 (fun i => lit1 (S32x16.rowMajor i))))
    (broadcastInDim S32x16x64 ![0, 1, 2] bcast_S1x1x64_S32x16x64_0_1_2
      (broadcastInDim S1x1x64 ![2] bcast_S64_S1x1x64_2 (iotaInDim S64 32 0)))

/-- The batch index of each gathered entry. -/
def batches : IVec S32x16x512x64x1 32 :=
  broadcastInDim S32x16x512x64x1 ![0, 1, 2, 3] bcast_S32x16x512x64_S32x16x512x64x1_0_1_2_3
    (broadcastInDim S32x16x512x64 ![0, 1, 2, 3] bcast_S32x1x1x1_S32x16x512x64_0_1_2_3
      (wrap S32x1x1x1 bcast_S_S32x1x1x1 32#32 (broadcastInDim S32x1x1x1 ![0] bcast_S32_S32x1x1x1_0 (iotaInDim S32 32 0))))

/-- The row index of each gathered entry. -/
def rows : IVec S32x16x512x64x1 32 :=
  broadcastInDim S32x16x512x64x1 ![0, 1, 2, 3] bcast_S32x16x512x64_S32x16x512x64x1_0_1_2_3
    (broadcastInDim S32x16x512x64 ![0, 1, 2, 3] bcast_S32x16x512x1_S32x16x512x64_0_1_2_3
      (wrap S32x16x512x1 bcast_S_S32x16x512x1 4096#32
        (broadcastInDim S32x16x512x1 ![0, 1, 2] bcast_S32x16x512_S32x16x512x1_0_1_2
          (modulo S32x16x512 bcast_S_S32x16x512 4096#32 rowSums))))

/-- The channel index of each gathered entry. -/
def chans : IVec S32x16x512x64x1 32 :=
  broadcastInDim S32x16x512x64x1 ![0, 1, 2, 3] bcast_S32x16x512x64_S32x16x512x64x1_0_1_2_3
    (broadcastInDim S32x16x512x64 ![0, 1, 2, 3] bcast_S32x16x1x64_S32x16x512x64_0_1_2_3
      (wrap S32x16x1x64 bcast_S_S32x16x1x64 128#32
        (broadcastInDim S32x16x1x64 ![0, 1, 3] bcast_S32x16x64_S32x16x1x64_0_1_3
          (modulo S32x16x64 bcast_S_S32x16x64 128#32 chanSums))))

/-- The number of a patch is the position of its start in the table of starts. -/
theorem rowMajor_eq (b : Fin 32) (p : Fin 16) : S32x16.rowMajor (ix2 b p) = number b p := by
  apply Fin.ext
  show (S32x16.rowMajor (ix2 b p)).val = 16 * b.val + p.val
  revert b p
  decide +kernel

theorem rowSums_apply (b : Fin 32) (p : Fin 16) (n : Fin 512) :
    rowSums (ix3 b p n) = Cert.KernelIdeal.lit2 (number b p) + BitVec.ofNat 32 n.val := by
  have e1 : broadcastInDim S32x16x512 ![0, 1, 2] bcast_S32x16x1_S32x16x512_0_1_2
      (broadcastInDim S32x16x1 ![0, 1] bcast_S32x16_S32x16x1_0_1 (fun i => lit0 (S32x16.rowMajor i))) (ix3 b p n)
      = Cert.KernelIdeal.lit2 (number b p) := by
    refine (broadcastInDim_apply _ _ _ _ (ix3 b p (0 : Fin 1)) fun a => by match a with | 0 | 1 | 2 => rfl).trans ?_
    refine (broadcastInDim_apply _ _ _ _ (ix2 b p) fun a => by match a with | 0 | 1 => rfl).trans ?_
    rw [rowMajor_eq, rows_eq]
  have e2 : broadcastInDim S32x16x512 ![0, 1, 2] bcast_S1x1x512_S32x16x512_0_1_2
      (broadcastInDim S1x1x512 ![2] bcast_S512_S1x1x512_2 (iotaInDim S512 32 0)) (ix3 b p n) = BitVec.ofNat 32 n.val := by
    refine (broadcastInDim_apply _ _ _ _ (ix3 (0 : Fin 1) (0 : Fin 1) n) fun a => by match a with | 0 | 1 | 2 => rfl).trans ?_
    exact broadcastInDim_apply _ _ _ _ (ix1 n) fun a => by match a with | 0 => rfl
  exact congrArg₂ (fun a c : BitVec 32 => a + c) e1 e2

theorem chanSums_apply (b : Fin 32) (p : Fin 16) (ch : Fin 64) :
    chanSums (ix3 b p ch) = Cert.KernelIdeal.lit3 (number b p) + BitVec.ofNat 32 ch.val := by
  have e1 : broadcastInDim S32x16x64 ![0, 1, 2] bcast_S32x16x1_S32x16x64_0_1_2
      (broadcastInDim S32x16x1 ![0, 1] bcast_S32x16_S32x16x1_0_1 (fun i => lit1 (S32x16.rowMajor i))) (ix3 b p ch)
      = Cert.KernelIdeal.lit3 (number b p) := by
    refine (broadcastInDim_apply _ _ _ _ (ix3 b p (0 : Fin 1)) fun a => by match a with | 0 | 1 | 2 => rfl).trans ?_
    refine (broadcastInDim_apply _ _ _ _ (ix2 b p) fun a => by match a with | 0 | 1 => rfl).trans ?_
    rw [rowMajor_eq, chans_eq]
  have e2 : broadcastInDim S32x16x64 ![0, 1, 2] bcast_S1x1x64_S32x16x64_0_1_2
      (broadcastInDim S1x1x64 ![2] bcast_S64_S1x1x64_2 (iotaInDim S64 32 0)) (ix3 b p ch) = BitVec.ofNat 32 ch.val := by
    refine (broadcastInDim_apply _ _ _ _ (ix3 (0 : Fin 1) (0 : Fin 1) ch) fun a => by match a with | 0 | 1 | 2 => rfl).trans ?_
    exact broadcastInDim_apply _ _ _ _ (ix1 ch) fun a => by match a with | 0 => rfl
  exact congrArg₂ (fun a c : BitVec 32 => a + c) e1 e2

/-- The number of the row read by entry `n` of a patch. -/
theorem rowSums_toNat (b : Fin 32) (p : Fin 16) (n : Fin 512) :
    (rowSums (ix3 b p n)).toNat = (source b p n 0 1).val := by
  rw [rowSums_apply]
  have h : (source b p n 0 1).val < 4096 := (source b p n 0 1).isLt
  have h' : (source b p n 0 1).val = (Cert.KernelIdeal.lit2 (number b p)).toNat + n.val := rfl
  rw [BitVec.toNat_add, BitVec.toNat_ofNat]
  omega

/-- The number of the channel read by entry `ch` of a patch. -/
theorem chanSums_toNat (b : Fin 32) (p : Fin 16) (ch : Fin 64) :
    (chanSums (ix3 b p ch)).toNat = (source b p 0 ch 2).val := by
  rw [chanSums_apply]
  have h : (source b p 0 ch 2).val < 128 := (source b p 0 ch 2).isLt
  have h' : (source b p 0 ch 2).val = (Cert.KernelIdeal.lit3 (number b p)).toNat + ch.val := rfl
  rw [BitVec.toNat_add, BitVec.toNat_ofNat]
  omega

theorem batches_apply (b : Fin 32) (p : Fin 16) (n : Fin 512) (ch : Fin 64) :
    batches (ix5 b p n ch (0 : Fin 1)) = BitVec.ofNat 32 b.val := by
  have e : broadcastInDim S32x1x1x1 ![0] bcast_S32_S32x1x1x1_0 (iotaInDim S32 32 0)
      (ix4 b (0 : Fin 1) (0 : Fin 1) (0 : Fin 1)) = BitVec.ofNat 32 b.val :=
    broadcastInDim_apply _ _ _ _ (ix1 b) fun a => by match a with | 0 => rfl
  unfold batches
  refine (broadcastInDim_apply _ _ _ _ (ix4 b p n ch) fun a => by match a with | 0 | 1 | 2 | 3 => rfl).trans ?_
  refine (broadcastInDim_apply _ _ _ _ (ix4 b (0 : Fin 1) (0 : Fin 1) (0 : Fin 1))
    fun a => by match a with | 0 | 1 | 2 | 3 => rfl).trans ?_
  rw [wrap_apply, e]
  rw [e, BitVec.toNat_ofNat]
  omega

theorem rows_apply (b : Fin 32) (p : Fin 16) (n : Fin 512) (ch : Fin 64) :
    rows (ix5 b p n ch (0 : Fin 1)) = rowSums (ix3 b p n) := by
  have hs : (rowSums (ix3 b p n)).toNat < 4096 := by
    rw [rowSums_toNat]; exact (source b p n 0 1).isLt
  have e : broadcastInDim S32x16x512x1 ![0, 1, 2] bcast_S32x16x512_S32x16x512x1_0_1_2
      (modulo S32x16x512 bcast_S_S32x16x512 4096#32 rowSums) (ix4 b p n (0 : Fin 1)) = rowSums (ix3 b p n) :=
    (broadcastInDim_apply _ _ _ _ (ix3 b p n) fun a => by match a with | 0 | 1 | 2 => rfl).trans
      (modulo_small _ _ _ _ _ (by decide) (by decide) hs)
  unfold rows
  refine (broadcastInDim_apply _ _ _ _ (ix4 b p n ch) fun a => by match a with | 0 | 1 | 2 | 3 => rfl).trans ?_
  refine (broadcastInDim_apply _ _ _ _ (ix4 b p n (0 : Fin 1)) fun a => by match a with | 0 | 1 | 2 | 3 => rfl).trans ?_
  rw [wrap_apply, e]
  rw [e]
  omega

theorem chans_apply (b : Fin 32) (p : Fin 16) (n : Fin 512) (ch : Fin 64) :
    chans (ix5 b p n ch (0 : Fin 1)) = chanSums (ix3 b p ch) := by
  have hs : (chanSums (ix3 b p ch)).toNat < 128 := by
    rw [chanSums_toNat]; exact (source b p 0 ch 2).isLt
  have e : broadcastInDim S32x16x1x64 ![0, 1, 3] bcast_S32x16x64_S32x16x1x64_0_1_3
      (modulo S32x16x64 bcast_S_S32x16x64 128#32 chanSums) (ix4 b p (0 : Fin 1) ch) = chanSums (ix3 b p ch) :=
    (broadcastInDim_apply _ _ _ _ (ix3 b p ch) fun a => by match a with | 0 | 1 | 2 => rfl).trans
      (modulo_small _ _ _ _ _ (by decide) (by decide) hs)
  unfold chans
  refine (broadcastInDim_apply _ _ _ _ (ix4 b p n ch) fun a => by match a with | 0 | 1 | 2 | 3 => rfl).trans ?_
  refine (broadcastInDim_apply _ _ _ _ (ix4 b p (0 : Fin 1) ch) fun a => by match a with | 0 | 1 | 2 | 3 => rfl).trans ?_
  rw [wrap_apply, e]
  rw [e]
  omega

/-- The three index columns side by side. -/
def starts : IVec S32x16x512x64x3 32 := Value.fn_main_v44 (F := Ideal) batches rows chans

/-- Each column, read off the joined array. -/
theorem starts_apply (b : Fin 32) (p : Fin 16) (n : Fin 512) (ch : Fin 64) (a : Fin 3) :
    starts (ix5 b p n ch a) = ![batches, rows, chans] a (ix5 b p n ch (0 : Fin 1)) := by
  have hi : ∀ (a : Fin 3) (r : Fin 5), r.cast rfl ≠ (4 : Fin S32x16x512x64x3.rank) →
      ((ix5 b p n ch (0 : Fin 1)) r).val = ((ix5 b p n ch a : S32x16x512x64x3.Idx) (r.cast rfl)).val := by
    intro a r hr
    match r with
    | 0 | 1 | 2 | 3 => rfl
    | 4 => exact absurd rfl hr
  unfold starts Value.fn_main_v44
  match a with
  | 0 =>
    exact concatenate_apply_piece (t := S32x16x512x64x3) _ _ _ _ 0 (by simp) S32x16x512x64x1 batches rfl rfl 0 rfl
      (ix5 b p n ch (0 : Fin 1)) (hi 0) rfl
  | 1 =>
    exact concatenate_apply_piece (t := S32x16x512x64x3) _ _ _ _ 1 (by simp) S32x16x512x64x1 rows rfl rfl 1 rfl
      (ix5 b p n ch (0 : Fin 1)) (hi 1) rfl
  | 2 =>
    exact concatenate_apply_piece (t := S32x16x512x64x3) _ _ _ _ 2 (by simp) S32x16x512x64x1 chans rfl rfl 2 rfl
      (ix5 b p n ch (0 : Fin 1)) (hi 2) rfl

/-- The joined array holds the index, on each axis, of the entry that the kernel reads. -/
theorem starts_toNat (b : Fin 32) (p : Fin 16) (n : Fin 512) (ch : Fin 64) (a : Fin 3) :
    (starts (ix5 b p n ch a)).toNat = (source b p n ch a).val := by
  rw [starts_apply]
  match a with
  | 0 =>
    show (batches _).toNat = b.val
    rw [batches_apply, BitVec.toNat_ofNat]
    exact Nat.mod_eq_of_lt (by omega)
  | 1 => exact (congrArg BitVec.toNat (rows_apply b p n ch)).trans (rowSums_toNat b p n)
  | 2 => exact (congrArg BitVec.toNat (chans_apply b p n ch)).trans (chanSums_toNat b p ch)

/-- The dimensions of the gather. -/
abbrev cut : GatherDims S32x4096x128 S32x16x512x64x3 S32x16x512x64 :=
  gather_S32x4096x128_S32x16x512x64x3_S32x16x512x64_n_012_n_n_012_4_111

/-- On every axis of `x` the gather reads at the index in the column for that axis. -/
theorem cut_axis (b : Fin 32) (p : Fin 16) (n : Fin 512) (ch : Fin 64) (a : Fin 3) :
    cut.start (ix4 b p n ch) starts a + cut.batchCoord (ix4 b p n ch) a + cut.offCoord (ix4 b p n ch) a
      = (source b p n ch a).val := by
  have hmem : a ∈ ([0, 1, 2] : List (Fin 3)) := (by decide : ∀ a : Fin 3, a ∈ ([0, 1, 2] : List (Fin 3))) a
  have hpos : cut.siIdx (ix4 b p n ch) ⟨cut.startIndexMap.idxOf a, List.idxOf_lt_length_iff.2 hmem⟩ = ix5 b p n ch a := by
    funext r
    refine Fin.ext ?_
    revert r
    show ∀ r : Fin 5, _
    intro r
    match a, r with
    | 0, 0 | 0, 1 | 0, 2 | 0, 3 | 0, 4 => rfl
    | 1, 0 | 1, 1 | 1, 2 | 1, 3 | 1, 4 => rfl
    | 2, 0 | 2, 1 | 2, 2 | 2, 3 | 2, 4 => rfl
  have hlt : (source b p n ch a).val < S32x4096x128.size a := (source b p n ch a).isLt
  have hsz : S32x4096x128.size a ≤ 4096 := (by decide : ∀ a : Fin 3, S32x4096x128.size a ≤ 4096) a
  have hone : cut.sliceSizes a = 1 := (by decide : ∀ a : Fin 3, cut.sliceSizes a = 1) a
  rw [GatherDims.batchCoord_eq_zero _ _ _ List.not_mem_nil,
    GatherDims.offCoord_eq_zero _ _ _ (fun h => ((GatherDims.mem_sKept _ _).mp h).1 hmem)]
  unfold GatherDims.start
  rw [dif_pos (show a ∈ cut.startIndexMap from hmem), hpos, hone,
    BitVec.toInt_eq_toNat_of_lt (by rw [starts_toNat]; omega), Int.toNat_natCast, starts_toNat]
  omega

/-- The gathered patches of `x`. -/
def patches (x : Vec Ideal S32x4096x128 .f32) : Vec Ideal S32x16x512x64 .f32 := Host.gather cut x starts

/-- Entry `(n, ch)` of patch `p` in batch `b` is the entry of `x` that the kernel reads there. -/
theorem patches_apply (x : Vec Ideal S32x4096x128 .f32) (b : Fin 32) (p : Fin 16) (n : Fin 512) (ch : Fin 64) :
    patches x (ix4 b p n ch) = x (source b p n ch) := by
  unfold patches Host.gather
  congr 1
  funext a
  exact Fin.ext (cut_axis b p n ch a)

end Cert.ReferenceIdeal.Patches

end
-- ==== Proof.RefValue.lean ====
/- The reference's first result, read at an index: the sum, over the 512 rows of a patch, of an entry of `x` by an entry of
   one of the reference's two matrices. These have the cosines and the negated sines of the kernel's one table, so that
   the sum is the one that the kernel computes. -/
module

public import proofs.«01_k».proof.Proof.RefPatches

@[expose] public section

set_option maxRecDepth 16384

noncomputable section

namespace Cert.ReferenceIdeal.Patches

open Cert.ReferenceIdeal Cert.ReferenceIdeal.Gen Idealize.ShloMosaic Idealize.ShloMosaic.TcCoe Idealize.ShloMosaic.Tactic
open Cert.KernelIdeal.Value (number source)
open Cert.KernelIdeal.Roots (matrix matrix_apply turn)

/-- A matrix of powers times the patches, with the axes in the order of the result. -/
def product (w : Fin 512 → BitVec 32) (y : FVec Ideal S32x16x512x64 .f32) : FVec Ideal S32x16x512x64x1 .f32 :=
  broadcastInDim S32x16x512x64x1 ![0, 1, 2, 3] bcast_S32x16x512x64_S32x16x512x64x1_0_1_2_3
    (transpose S32x16x512x64 [1, 2, 0, 3]
      (Host.dotGeneral dot_S512x512_S32x16x512x64_S512x32x16x64_0_2_1_013_n_n none (matrix w) y)
      transposes_S512x32x16x64_S32x16x512x64_1_2_0_3)

/-- The first result is the two products side by side. -/
theorem result_eq (m : (ℓ : Loc nD τ sig) → Buf (Elt Ideal) ℓ) (c : Dev nD) :
    Value.res_main_v73 m c = Value.fn_main_v73 (F := Ideal)
      (product lit2 (patches (m ((c.tc : Thread nD τ).loc main_arg0))))
      (product lit3 (patches (m ((c.tc : Thread nD τ).loc main_arg0)))) := by
  unfold Value.res_main_v73
  rfl

/-- One entry of a product: the sum over the rows of a patch. -/
theorem product_apply (w : Fin 512 → BitVec 32) (y : FVec Ideal S32x16x512x64 .f32)
    (b : Fin 32) (p : Fin 16) (k : Fin 512) (ch : Fin 64) :
    product w y (ix5 b p k ch (0 : Fin 1)) = ∑ n : Fin 512, (matrix w (ix2 n k) : EReal) * (y (ix4 b p n ch) : EReal) := by
  unfold product
  refine (broadcastInDim_apply _ _ _ _ (ix4 b p k ch) fun a => by match a with | 0 | 1 | 2 | 3 => rfl).trans ?_
  refine (transpose_apply _ _ _ _ (ix4 k b p ch) fun a => by match a with | 0 | 1 | 2 | 3 => rfl).trans ?_
  simp only [pointwise]
  exact zero_add (M := EReal) _

/-- The first powers of the reference are the kernel's cosines, … -/
theorem cos_eq : lit2 = Cert.KernelIdeal.lit0 :=
  funext fun i => (by decide +kernel : ∀ i : Fin 512, lit2 i = Cert.KernelIdeal.lit0 i) i

/-- … and the second its negated sines. -/
theorem sin_eq : lit3 = Cert.KernelIdeal.lit1 :=
  funext fun i => (by decide +kernel : ∀ i : Fin 512, lit3 i = Cert.KernelIdeal.lit1 i) i

/-- A product with the kernel's powers of part `r` is part `r` of the spectra. -/
theorem product_eq (w : Fin 512 → BitVec 32) (r : Fin 2)
    (hw : w = (![Cert.KernelIdeal.lit0, Cert.KernelIdeal.lit1] : Fin 2 → Fin 512 → BitVec 32) r)
    (x : Vec Ideal S32x4096x128 .f32) (b : Fin 32) (p : Fin 16) (k : Fin 512) (ch : Fin 64) :
    product w (patches x) (ix5 b p k ch (0 : Fin 1)) = Cert.KernelIdeal.Value.spectrum x b p ch k r := by
  rw [product_apply]
  unfold Cert.KernelIdeal.Value.spectrum
  refine Finset.sum_congr rfl fun n _ => ?_
  rw [matrix_apply, hw, patches_apply]
  exact mul_comm _ _

/-- **The reference's first result at an index**: part `r` of frequency `k` of channel `ch` of patch `p` of batch `b`. -/
theorem result_apply (m : (ℓ : Loc nD τ sig) → Buf (Elt Ideal) ℓ) (c : Dev nD)
    (b : Fin 32) (p : Fin 16) (k : Fin 512) (ch : Fin 64) (r : Fin 2) :
    (Value.res_main_v73 m c : FVec Ideal S32x16x512x64x2 .f32) (ix5 b p k ch r)
      = Cert.KernelIdeal.Value.spectrum (m ((c.tc : Thread nD τ).loc main_arg0)) b p ch k r := by
  have hi : ∀ (a : Fin 2) (q : Fin 5), q.cast rfl ≠ (4 : Fin S32x16x512x64x2.rank) →
      ((ix5 b p k ch (0 : Fin 1)) q).val = ((ix5 b p k ch a : S32x16x512x64x2.Idx) (q.cast rfl)).val := by
    intro a q hq
    match q with
    | 0 | 1 | 2 | 3 => rfl
    | 4 => exact absurd rfl hq
  rw [result_eq]
  unfold Value.fn_main_v73
  match r with
  | 0 =>
    exact (concatenate_apply_piece (t := S32x16x512x64x2) _ _ _ _ 0 (by simp) S32x16x512x64x1 (product lit2 _) rfl rfl 0
      rfl (ix5 b p k ch (0 : Fin 1)) (hi 0) rfl).trans (product_eq lit2 0 cos_eq _ b p k ch)
  | 1 =>
    exact (concatenate_apply_piece (t := S32x16x512x64x2) _ _ _ _ 1 (by simp) S32x16x512x64x1 (product lit3 _) rfl rfl 1
      rfl (ix5 b p k ch (0 : Fin 1)) (hi 1) rfl).trans (product_eq lit3 1 sin_eq _ b p k ch)

end Cert.ReferenceIdeal.Patches

end
-- ==== Proof.Equal.lean ====
/- The claim of equal values: the two programs, run from memories that hold the same argument, end with the same two
   results. -/
module

public import proofs.«01_k».proof.Defs
public import proofs.«01_k».proof.Proof.KernelRun
public import proofs.«01_k».proof.Proof.RefValue

@[expose] public section

set_option maxRecDepth 16384

noncomputable section

namespace Cert.Proof

open Idealize.ShloMosaic Idealize.ShloMosaic.TcCoe
open Cert.KernelIdeal.Value (result0 result1 result0_apply)

/-- The reference's first result is the kernel's, the arguments being equal. -/
theorem first_eq (x : Vec Ideal Cert.KernelIdeal.S32x4096x128 .f32)
    (m : (ℓ : Loc Cert.ReferenceIdeal.nD Cert.ReferenceIdeal.τ Cert.ReferenceIdeal.sig) → Buf (Elt Ideal) ℓ)
    (c : Dev Cert.ReferenceIdeal.nD)
    (hx : m ((c.tc : Thread Cert.ReferenceIdeal.nD Cert.ReferenceIdeal.τ).loc Cert.ReferenceIdeal.main_arg0) = x) :
    Cert.ReferenceIdeal.Value.res_main_v73 m c = result0 x := by
  funext z
  have hz : z = ix5 (z 0) (z 1) (z 2) (z 3) (z 4) := by
    funext a
    revert a
    show ∀ a : Fin 5, _
    intro a
    match a with
    | 0 | 1 | 2 | 3 | 4 => rfl
  rw [hz]
  refine (Cert.ReferenceIdeal.Patches.result_apply m c (z 0) (z 1) (z 2) (z 3) (z 4)).trans ?_
  rw [hx]
  exact (result0_apply x (z 0) (z 1) (z 2) (z 3) (z 4)).symm

/-- **The values are equal.** -/
theorem algebraic : Cert.algebraic_KernelIdeal_ReferenceIdeal := by
  intro m g m' g' _ hm
  refine ⟨fun c => result0 (m ((c.tc : Thread Cert.KernelIdeal.nD Cert.KernelIdeal.τ).loc Cert.KernelIdeal.main_arg0)),
    fun _ => result1, Cert.KernelIdeal.Value.run m g, ?_⟩
  exact (θ_run Cert.ReferenceIdeal.defs _ _).mono
    (fun _ h c => ⟨(h c).1.trans (first_eq _ m' c (hm c)), (h c).2.1, (h c).2.2⟩)
    (Cert.ReferenceIdeal.Value.run (F := Ideal) m' g')

end Cert.Proof

end
-- ==== Proof.lean ====
module

public import proofs.«01_k».proof.Defs
public import proofs.«01_k».proof.Proof.StartsBits
public import proofs.«01_k».proof.Proof.Starts
public import proofs.«01_k».proof.Proof.Equal
public import Idealize.ShloMosaic.Adequacy
public import Idealize.ShloMosaic.Init

@[expose] public section

noncomputable section

namespace Cert.Proof

open Idealize.ShloMosaic Idealize.SL.Sem

/-- The frame of the kernel. -/
theorem quiescent_kernel : Cert.quiescent_Kernel :=
  fun m g _ => Cert.Kernel.Gen.frame m g (Cert.Kernel.Starts.ok m) (Cert.Kernel.Starts.hyps m)

/-- The frame of the kernel over the extended reals. -/
theorem quiescent_kernelIdeal : Cert.quiescent_KernelIdeal :=
  fun m g _ => Cert.KernelIdeal.Gen.frame m g (Cert.KernelIdeal.Starts.ok m) (Cert.KernelIdeal.Starts.hyps m)

/-- The frame of the reference. It has no semaphores. -/
theorem quiescent_reference : Cert.quiescent_ReferenceIdeal :=
  fun m g _ => (θ_run Cert.ReferenceIdeal.defs _ _).mono
    (fun r h => ⟨fun c => (h c).2.2, sem_eq_zero_of_no_sems (by decide) r.2⟩)
    (Cert.ReferenceIdeal.Value.run (F := Ideal) m g)

/-- **Every claim of the certificate.** -/
theorem claim : Cert.Claim :=
  ⟨Cert.Kernel.Gen.facts, Cert.KernelIdeal.Gen.facts, Cert.ReferenceIdeal.Gen.facts,
    quiescent_kernel, quiescent_kernelIdeal, quiescent_reference, trivial, algebraic⟩

end Cert.Proof

end
